-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v282) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8x64x1x16x16x256 : Shape := ⟨6, ![8, 64, 1, 16, 16, 256]⟩
abbrev S_ : Shape := ⟨0, ![]⟩
abbrev S4x256x256x2x2 : Shape := ⟨5, ![4, 256, 256, 2, 2]⟩
abbrev S4x256 : Shape := ⟨2, ![4, 256]⟩
abbrev S256x256 : Shape := ⟨2, ![256, 256]⟩
abbrev S256 : Shape := ⟨1, ![256]⟩
abbrev S32x14 : Shape := ⟨2, ![32, 14]⟩

class Facts : Prop where
  bcast_S_S8x64x1x16x16x256 : S_.BroadcastsInDim S8x64x1x16x16x256 (![] : Fin 0 → Fin S8x64x1x16x16x256.rank)
  bcast_S_S4x256x256x2x2 : S_.BroadcastsInDim S4x256x256x2x2 (![] : Fin 0 → Fin S4x256x256x2x2.rank)
  bcast_S_S4x256 : S_.BroadcastsInDim S4x256 (![] : Fin 0 → Fin S4x256.rank)
  bcast_S_S256x256 : S_.BroadcastsInDim S256x256 (![] : Fin 0 → Fin S256x256.rank)
  bcast_S_S256 : S_.BroadcastsInDim S256 (![] : Fin 0 → Fin S256.rank)
  bcast_S_S32x14 : S_.BroadcastsInDim S32x14 (![] : Fin 0 → Fin S32x14.rank)

variable [Facts]

def fn_part1 {F : FTy → Type} [FloatOps F] (main_arg7 : FVec F S256 .f32) (main_arg8 : FVec F S32x14 .f32) (main_v2 : IVec S8x64x1x16x16x256 1) (main_v5 : IVec S4x256x256x2x2 1) (main_v8 : IVec S4x256 1) (main_v11 : IVec S4x256 1) (main_v14 : IVec S4x256 1) (main_v17 : IVec S256x256 1) : IVec S8x64x1x16x16x256 1 × IVec S4x256x256x2x2 1 × IVec S4x256 1 × IVec S4x256 1 × IVec S4x256 1 × IVec S256x256 1 × IVec S256 1 × IVec S32x14 1 :=
  let main_v18 : FVec F S256 .f32 := Host.absf main_arg7
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S32x14 .f32 := Host.absf main_arg8
  let main_cst_6 : FVec F S_ .f32 := constant S_ .f32 0x7F800000#32
  let main_v22 : FVec F S32x14 .f32 := broadcastInDim S32x14 ![] bcast_S_S32x14 main_cst_6
  let main_v23 : IVec S32x14 1 := cmpf .olt main_v21 main_v22
  (main_v2, main_v5, main_v8, main_v11, main_v14, main_v17, main_v20, main_v23)

def fn {F : FTy → Type} [FloatOps F] (main_arg0 : FVec F S8x64x1x16x16x256 .f32) (main_arg1 : IVec S_ 32) (main_arg2 : FVec F S4x256x256x2x2 .f32) (main_arg3 : FVec F S4x256 .f32) (main_arg4 : FVec F S4x256 .f32) (main_arg5 : FVec F S4x256 .f32) (main_arg6 : FVec F S256x256 .f32) (main_arg7 : FVec F S256 .f32) (main_arg8 : FVec F S32x14 .f32) (main_arg9 : FVec F S32x14 .f32) : IVec S8x64x1x16x16x256 1 × IVec S4x256x256x2x2 1 × IVec S4x256 1 × IVec S4x256 1 × IVec S4x256 1 × IVec S256x256 1 × IVec S256 1 × IVec S32x14 1 :=
  let main_v0 : FVec F S8x64x1x16x16x256 .f32 := Host.absf main_arg0
  let main_cst : FVec F S_ .f32 := constant S_ .f32 0x7F800000#32
  let main_v1 : FVec F S8x64x1x16x16x256 .f32 := broadcastInDim S8x64x1x16x16x256 ![] bcast_S_S8x64x1x16x16x256 main_cst
  let main_v2 : IVec S8x64x1x16x16x256 1 := cmpf .olt main_v0 main_v1
  let main_v3 : FVec F S4x256x256x2x2 .f32 := Host.absf main_arg2
  let main_cst_0 : FVec F S_ .f32 := constant S_ .f32 0x7F800000#32
  let main_v4 : FVec F S4x256x256x2x2 .f32 := broadcastInDim S4x256x256x2x2 ![] bcast_S_S4x256x256x2x2 main_cst_0
  let main_v5 : IVec S4x256x256x2x2 1 := cmpf .olt main_v3 main_v4
  let main_v6 : FVec F S4x256 .f32 := Host.absf main_arg3
  let main_cst_1 : FVec F S_ .f32 := constant S_ .f32 0x7F800000#32
  let main_v7 : FVec F S4x256 .f32 := broadcastInDim S4x256 ![] bcast_S_S4x256 main_cst_1
  let main_v8 : IVec S4x256 1 := cmpf .olt main_v6 main_v7
  let main_v9 : FVec F S4x256 .f32 := Host.absf main_arg4
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_v12 : FVec F S4x256 .f32 := Host.absf main_arg5
  let main_cst_3 : FVec F S_ .f32 := constant S_ .f32 0x7F800000#32
  let main_v13 : FVec F S4x256 .f32 := broadcastInDim S4x256 ![] bcast_S_S4x256 main_cst_3
  let main_v14 : IVec S4x256 1 := cmpf .olt main_v12 main_v13
  let main_v15 : FVec F S256x256 .f32 := Host.absf main_arg6
  let main_cst_4 : FVec F S_ .f32 := constant S_ .f32 0x7F800000#32
  let main_v16 : FVec F S256x256 .f32 := broadcastInDim S256x256 ![] bcast_S_S256x256 main_cst_4
  let main_v17 : IVec S256x256 1 := cmpf .olt main_v15 main_v16
  fn_part1 (F := F) main_arg7 main_arg8 main_v2 main_v5 main_v8 main_v11 main_v14 main_v17
-- ==== Kernel.lean ====
abbrev S8x64x1x16x16x256 : Shape := ⟨6, ![8, 64, 1, 16, 16, 256]⟩
abbrev S_ : Shape := ⟨0, ![]⟩
abbrev S4x256x256x2x2 : Shape := ⟨5, ![4, 256, 256, 2, 2]⟩
abbrev S4x256 : Shape := ⟨2, ![4, 256]⟩
abbrev S256x256 : Shape := ⟨2, ![256, 256]⟩
abbrev S256 : Shape := ⟨1, ![256]⟩
abbrev S32x14 : Shape := ⟨2, ![32, 14]⟩
abbrev S32x64 : Shape := ⟨2, ![32, 64]⟩
abbrev S8x256 : Shape := ⟨2, ![8, 256]⟩
abbrev S1x256x256x2x2 : Shape := ⟨5, ![1, 256, 256, 2, 2]⟩
abbrev S256x256x2x2 : Shape := ⟨4, ![256, 256, 2, 2]⟩
abbrev S2x2x256x256 : Shape := ⟨4, ![2, 2, 256, 256]⟩
abbrev S2x512x256 : Shape := ⟨3, ![2, 512, 256]⟩
abbrev S2x256 : Shape := ⟨2, ![2, 256]⟩
abbrev S1x256 : Shape := ⟨2, ![1, 256]⟩
abbrev S512x16x16x256 : Shape := ⟨4, ![512, 16, 16, 256]⟩
abbrev S512x8x2x16x256 : Shape := ⟨5, ![512, 8, 2, 16, 256]⟩
abbrev S512x8x8x256 : Shape := ⟨4, ![512, 8, 8, 256]⟩
abbrev S64x8x1x16x256 : Shape := ⟨5, ![64, 8, 1, 16, 256]⟩
abbrev S64x8x8x256 : Shape := ⟨4, ![64, 8, 8, 256]⟩
abbrev S512x16x256 : Shape := ⟨3, ![512, 16, 256]⟩
abbrev S4096x512 : Shape := ⟨2, ![4096, 512]⟩
abbrev S1x512x256 : Shape := ⟨3, ![1, 512, 256]⟩
abbrev S512x256 : Shape := ⟨2, ![512, 256]⟩
abbrev S4096x256 : Shape := ⟨2, ![4096, 256]⟩
abbrev S512x4x2x8x256 : Shape := ⟨5, ![512, 4, 2, 8, 256]⟩
abbrev S512x4x4x256 : Shape := ⟨4, ![512, 4, 4, 256]⟩
abbrev S128x4x1x8x256 : Shape := ⟨5, ![128, 4, 1, 8, 256]⟩
abbrev S128x4x4x256 : Shape := ⟨4, ![128, 4, 4, 256]⟩
abbrev S512x8x256 : Shape := ⟨3, ![512, 8, 256]⟩
abbrev S1x1x256 : Shape := ⟨3, ![1, 1, 256]⟩
abbrev S2048x512 : Shape := ⟨2, ![2048, 512]⟩
abbrev S2048x256 : Shape := ⟨2, ![2048, 256]⟩
abbrev S512x2x2x4x256 : Shape := ⟨5, ![512, 2, 2, 4, 256]⟩
abbrev S512x2x2x256 : Shape := ⟨4, ![512, 2, 2, 256]⟩
abbrev S512x2x1x4x256 : Shape := ⟨5, ![512, 2, 1, 4, 256]⟩
abbrev S1024x4x256 : Shape := ⟨3, ![1024, 4, 256]⟩
abbrev S512x1x2x2x256 : Shape := ⟨5, ![512, 1, 2, 2, 256]⟩
abbrev S512x1x1x256 : Shape := ⟨4, ![512, 1, 1, 256]⟩
abbrev S512x1x1x2x256 : Shape := ⟨5, ![512, 1, 1, 2, 256]⟩
abbrev S512x2x256 : Shape := ⟨3, ![512, 2, 256]⟩
abbrev S512x512 : Shape := ⟨2, ![512, 512]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S8x32x8x64 : Shape := ⟨4, ![8, 32, 8, 64]⟩
abbrev S1x32x1x64 : Shape := ⟨4, ![1, 32, 1, 64]⟩
abbrev S256x512 : Shape := ⟨2, ![256, 512]⟩
abbrev S1x32x1x14 : Shape := ⟨4, ![1, 32, 1, 14]⟩
abbrev S8x32x1x14 : Shape := ⟨4, ![8, 32, 1, 14]⟩
abbrev S256x14 : Shape := ⟨2, ![256, 14]⟩
abbrev S8x14 : Shape := ⟨2, ![8, 14]⟩
abbrev S1x14 : Shape := ⟨2, ![1, 14]⟩
abbrev S256x1 : Shape := ⟨2, ![256, 1]⟩
abbrev S8x1 : Shape := ⟨2, ![8, 1]⟩
abbrev S14 : Shape := ⟨1, ![14]⟩

abbrev nBuf : Space → Nat
  | .hbm => 106
  | .vmem => 50
  | .smem => 0
  | _ => 0

abbrev bufTy : (tb : Table) → Fin (tcTables nBuf tb) → BufTy
  | .hbm, ⟨0, _⟩ => ⟨S8x64x1x16x16x256, .f32⟩
  | .hbm, ⟨1, _⟩ => ⟨S_, .i32⟩
  | .hbm, ⟨2, _⟩ => ⟨S4x256x256x2x2, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S256x256, .f32⟩
  | .hbm, ⟨7, _⟩ => ⟨S256, .f32⟩
  | .hbm, ⟨8, _⟩ => ⟨S32x14, .f32⟩
  | .hbm, ⟨9, _⟩ => ⟨S32x14, .f32⟩
  | .hbm, ⟨10, _⟩ => ⟨S32x64, .f32⟩
  | .hbm, ⟨11, _⟩ => ⟨S32x64, .f32⟩
  | .hbm, ⟨12, _⟩ => ⟨S8x256, .f32⟩
  | .hbm, ⟨13, _⟩ => ⟨S1x256x256x2x2, .f32⟩
  | .hbm, ⟨14, _⟩ => ⟨S256x256x2x2, .f32⟩
  | .hbm, ⟨15, _⟩ => ⟨S2x2x256x256, .f32⟩
  | .hbm, ⟨16, _⟩ => ⟨S2x512x256, .f32⟩
  | .hbm, ⟨17, _⟩ => ⟨S2x512x256, .bf16⟩
  | .hbm, ⟨18, _⟩ => ⟨S1x256x256x2x2, .f32⟩
  | .hbm, ⟨19, _⟩ => ⟨S256x256x2x2, .f32⟩
  | .hbm, ⟨20, _⟩ => ⟨S2x2x256x256, .f32⟩
  | .hbm, ⟨21, _⟩ => ⟨S2x512x256, .f32⟩
  | .hbm, ⟨22, _⟩ => ⟨S2x512x256, .bf16⟩
  | .hbm, ⟨23, _⟩ => ⟨S1x256x256x2x2, .f32⟩
  | .hbm, ⟨24, _⟩ => ⟨S256x256x2x2, .f32⟩
  | .hbm, ⟨25, _⟩ => ⟨S2x2x256x256, .f32⟩
  | .hbm, ⟨26, _⟩ => ⟨S2x512x256, .f32⟩
  | .hbm, ⟨27, _⟩ => ⟨S2x512x256, .bf16⟩
  | .hbm, ⟨28, _⟩ => ⟨S1x256x256x2x2, .f32⟩
  | .hbm, ⟨29, _⟩ => ⟨S256x256x2x2, .f32⟩
  | .hbm, ⟨30, _⟩ => ⟨S2x2x256x256, .f32⟩
  | .hbm, ⟨31, _⟩ => ⟨S2x512x256, .f32⟩
  | .hbm, ⟨32, _⟩ => ⟨S2x512x256, .bf16⟩
  | .hbm, ⟨33, _⟩ => ⟨S_, .f32⟩
  | .hbm, ⟨34, _⟩ => ⟨S2x256, .f32⟩
  | .hbm, ⟨35, _⟩ => ⟨S_, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S512x16x16x256, .f32⟩
  | .hbm, ⟨40, _⟩ => ⟨S512x8x2x16x256, .f32⟩
  | .hbm, ⟨41, _⟩ => ⟨S512x8x8x256, .bf16⟩
  | .hbm, ⟨42, _⟩ => ⟨S2x256, .f32⟩
  | .hbm, ⟨43, _⟩ => ⟨S1x256, .f32⟩
  | .hbm, ⟨44, _⟩ => ⟨S256, .f32⟩
  | .hbm, ⟨45, _⟩ => ⟨S1x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S512x4x2x8x256, .bf16⟩
  | .hbm, ⟨50, _⟩ => ⟨S512x4x4x256, .bf16⟩
  | .hbm, ⟨51, _⟩ => ⟨S2x256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S1x256, .f32⟩
  | .hbm, ⟨56, _⟩ => ⟨S256, .f32⟩
  | .hbm, ⟨57, _⟩ => ⟨S1x256, .f32⟩
  | .hbm, ⟨58, _⟩ => ⟨S512x2x2x4x256, .bf16⟩
  | .hbm, ⟨59, _⟩ => ⟨S512x2x2x256, .bf16⟩
  | .hbm, ⟨60, _⟩ => ⟨S2x256, .f32⟩
  | .hbm, ⟨61, _⟩ => ⟨S1x256, .f32⟩
  | .hbm, ⟨62, _⟩ => ⟨S256, .f32⟩
  | .hbm, ⟨63, _⟩ => ⟨S1x256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S512x1x2x2x256, .bf16⟩
  | .hbm, ⟨68, _⟩ => ⟨S512x1x1x256, .bf16⟩
  | .hbm, ⟨69, _⟩ => ⟨S2x256, .f32⟩
  | .hbm, ⟨70, _⟩ => ⟨S8, .i32⟩
  | .hbm, ⟨71, _⟩ => ⟨S8x1x1x1, .i32⟩
  | .hbm, ⟨72, _⟩ => ⟨S8, .i32⟩
  | .hbm, ⟨73, _⟩ => ⟨S1x1x8x1, .i32⟩
  | .hbm, ⟨74, _⟩ => ⟨S8x1x8x1, .i32⟩
  | .hbm, ⟨75, _⟩ => ⟨S8x1x8x1, .i32⟩
  | .hbm, ⟨76, _⟩ => ⟨S8x1x8x1, .i1⟩
  | .hbm, ⟨77, _⟩ => ⟨S8x32x8x64, .i1⟩
  | .hbm, ⟨78, _⟩ => ⟨S1x32x1x64, .f32⟩
  | .hbm, ⟨79, _⟩ => ⟨S8x32x8x64, .f32⟩
  | .hbm, ⟨80, _⟩ => ⟨S_, .f32⟩
  | .hbm, ⟨81, _⟩ => ⟨S8x32x8x64, .f32⟩
  | .hbm, ⟨82, _⟩ => ⟨S8x32x8x64, .f32⟩
  | .hbm, ⟨83, _⟩ => ⟨S256x512, .f32⟩
  | .hbm, ⟨84, _⟩ => ⟨S8x32x8x64, .i1⟩
  | .hbm, ⟨85, _⟩ => ⟨S1x32x1x64, .f32⟩
  | .hbm, ⟨86, _⟩ => ⟨S8x32x8x64, .f32⟩
  | .hbm, ⟨87, _⟩ => ⟨S_, .f32⟩
  | .hbm, ⟨88, _⟩ => ⟨S8x32x8x64, .f32⟩
  | .hbm, ⟨89, _⟩ => ⟨S8x32x8x64, .f32⟩
  | .hbm, ⟨90, _⟩ => ⟨S256x512, .f32⟩
  | .hbm, ⟨91, _⟩ => ⟨S1x32x1x14, .f32⟩
  | .hbm, ⟨92, _⟩ => ⟨S8x32x1x14, .f32⟩
  | .hbm, ⟨93, _⟩ => ⟨S256x14, .f32⟩
  | .hbm, ⟨94, _⟩ => ⟨S512x256, .bf16⟩
  | .hbm, ⟨95, _⟩ => ⟨S1x256, .f32⟩
  | .hbm, ⟨96, _⟩ => ⟨S256, .f32⟩
  | .hbm, ⟨97, _⟩ => ⟨S1x256, .f32⟩
  | .hbm, ⟨98, _⟩ => ⟨S1x256, .f32⟩
  | .hbm, ⟨99, _⟩ => ⟨S256, .f32⟩
  | .hbm, ⟨100, _⟩ => ⟨S1x256, .f32⟩
  | .hbm, ⟨101, _⟩ => ⟨S256x256, .f32⟩
  | .hbm, ⟨102, _⟩ => ⟨S1x256, .f32⟩
  | .hbm, ⟨103, _⟩ => ⟨S8x14, .f32⟩
  | .hbm, ⟨104, _⟩ => ⟨S1x14, .i32⟩
  | .hbm, ⟨105, _⟩ => ⟨S14, .i32⟩
  | .local _ .vmem, ⟨0, _⟩ => ⟨S64x8x1x16x256, .f32⟩
  | .local _ .vmem, ⟨1, _⟩ => ⟨S64x8x1x16x256, .f32⟩
  | .local _ .vmem, ⟨2, _⟩ => ⟨S64x8x1x16x256, .f32⟩
  | .local _ .vmem, ⟨3, _⟩ => ⟨S64x8x1x16x256, .f32⟩
  | .local _ .vmem, ⟨4, _⟩ => ⟨S2x512x256, .bf16⟩
  | .local _ .vmem, ⟨5, _⟩ => ⟨S2x256, .f32⟩
  | .local _ .vmem, ⟨6, _⟩ => ⟨S1x256, .f32⟩
  | .local _ .vmem, ⟨7, _⟩ => ⟨S1x256, .f32⟩
  | .local _ .vmem, ⟨8, _⟩ => ⟨S64x8x8x256, .bf16⟩
  | .local _ .vmem, ⟨9, _⟩ => ⟨S64x8x8x256, .bf16⟩
  | .local _ .vmem, ⟨10, _⟩ => ⟨S2x256, .f32⟩
  | .local _ .vmem, ⟨11, _⟩ => ⟨S128x4x1x8x256, .bf16⟩
  | .local _ .vmem, ⟨12, _⟩ => ⟨S128x4x1x8x256, .bf16⟩
  | .local _ .vmem, ⟨13, _⟩ => ⟨S128x4x1x8x256, .bf16⟩
  | .local _ .vmem, ⟨14, _⟩ => ⟨S128x4x1x8x256, .bf16⟩
  | .local _ .vmem, ⟨15, _⟩ => ⟨S2x512x256, .bf16⟩
  | .local _ .vmem, ⟨16, _⟩ => ⟨S2x256, .f32⟩
  | .local _ .vmem, ⟨17, _⟩ => ⟨S1x256, .f32⟩
  | .local _ .vmem, ⟨18, _⟩ => ⟨S1x256, .f32⟩
  | .local _ .vmem, ⟨19, _⟩ => ⟨S128x4x4x256, .bf16⟩
  | .local _ .vmem, ⟨20, _⟩ => ⟨S128x4x4x256, .bf16⟩
  | .local _ .vmem, ⟨21, _⟩ => ⟨S2x256, .f32⟩
  | .local _ .vmem, ⟨22, _⟩ => ⟨S512x2x1x4x256, .bf16⟩
  | .local _ .vmem, ⟨23, _⟩ => ⟨S512x2x1x4x256, .bf16⟩
  | .local _ .vmem, ⟨24, _⟩ => ⟨S2x512x256, .bf16⟩
  | .local _ .vmem, ⟨25, _⟩ => ⟨S2x256, .f32⟩
  | .local _ .vmem, ⟨26, _⟩ => ⟨S1x256, .f32⟩
  | .local _ .vmem, ⟨27, _⟩ => ⟨S1x256, .f32⟩
  | .local _ .vmem, ⟨28, _⟩ => ⟨S512x2x2x256, .bf16⟩
  | .local _ .vmem, ⟨29, _⟩ => ⟨S2x256, .f32⟩
  | .local _ .vmem, ⟨30, _⟩ => ⟨S512x1x1x2x256, .bf16⟩
  | .local _ .vmem, ⟨31, _⟩ => ⟨S512x1x1x2x256, .bf16⟩
  | .local _ .vmem, ⟨32, _⟩ => ⟨S2x512x256, .bf16⟩
  | .local _ .vmem, ⟨33, _⟩ => ⟨S2x256, .f32⟩
  | .local _ .vmem, ⟨34, _⟩ => ⟨S1x256, .f32⟩
  | .local _ .vmem, ⟨35, _⟩ => ⟨S1x256, .f32⟩
  | .local _ .vmem, ⟨36, _⟩ => ⟨S512x1x1x256, .bf16⟩
  | .local _ .vmem, ⟨37, _⟩ => ⟨S2x256, .f32⟩
  | .local _ .vmem, ⟨38, _⟩ => ⟨S512x256, .bf16⟩
  | .local _ .vmem, ⟨39, _⟩ => ⟨S2x256, .f32⟩
  | .local _ .vmem, ⟨40, _⟩ => ⟨S1x256, .f32⟩
  | .local _ .vmem, ⟨41, _⟩ => ⟨S1x256, .f32⟩
  | .local _ .vmem, ⟨42, _⟩ => ⟨S256x256, .f32⟩
  | .local _ .vmem, ⟨43, _⟩ => ⟨S1x256, .f32⟩
  | .local _ .vmem, ⟨44, _⟩ => ⟨S256x512, .f32⟩
  | .local _ .vmem, ⟨45, _⟩ => ⟨S256x512, .f32⟩
  | .local _ .vmem, ⟨46, _⟩ => ⟨S256x14, .f32⟩
  | .local _ .vmem, ⟨47, _⟩ => ⟨S8x256, .f32⟩
  | .local _ .vmem, ⟨48, _⟩ => ⟨S8x14, .f32⟩
  | .local _ .vmem, ⟨49, _⟩ => ⟨S1x14, .i32⟩
  | _, _ => ⟨S8x64x1x16x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81_0 : Ref sig .tc := ⟨.hbm, 103, rfl⟩
abbrev main_v81_1 : Ref sig .tc := ⟨.hbm, 104, rfl⟩
abbrev main_v82 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg10_0 : Ref sig .tc := ⟨.vmem, 48, rfl⟩
abbrev cc4_stg11_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem10_0 : DmaSem sig := 48
abbrev cc4_sem11_0 : DmaSem sig := 49

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_21 : BitVec 32 := 0#32
  let v28 : BitVec 1 := Scalar.cmpi .ne v27 c0_i32_21
  v28

def k0_cond2 (i : grid0.Coords) : BitVec 1 :=
  let arg0 : BitVec 32 := BitVec.ofNat 32 (i 0).val
  let c0_i32_22 : BitVec 32 := 0#32
  let v29 : BitVec 1 := Scalar.cmpi .ne arg0 c0_i32_22
  let v30 : BitVec 32 := Scalar.extui v29
  let c0_i32_23 : BitVec 32 := 0#32
  let v31 : BitVec 1 := Scalar.cmpi .ne v30 c0_i32_23
  v31

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8x1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_34 : BitVec 32 := 0#32
  let v64 : BitVec 1 := Scalar.cmpi .ne v63 c0_i32_34
  v64

def k1_cond2 (i : grid1.Coords) : BitVec 1 :=
  let arg0 : BitVec 32 := BitVec.ofNat 32 (i 0).val
  let c0_i32_35 : BitVec 32 := 0#32
  let v65 : BitVec 1 := Scalar.cmpi .ne arg0 c0_i32_35
  let v66 : BitVec 32 := Scalar.extui v65
  let c0_i32_36 : BitVec 32 := 0#32
  let v67 : BitVec 1 := Scalar.cmpi .ne v66 c0_i32_36
  v67

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4x1x8x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4x1x8x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4x4x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![1], ![false]⟩

def k2_cond1 (i : grid2.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_34 : BitVec 32 := 0#32
  let v64 : BitVec 1 := Scalar.cmpi .ne v63 c0_i32_34
  v64

def k2_cond2 (i : grid2.Coords) : BitVec 1 :=
  let arg0 : BitVec 32 := BitVec.ofNat 32 (i 0).val
  let c0_i32_35 : BitVec 32 := 0#32
  let v65 : BitVec 1 := Scalar.cmpi .ne arg0 c0_i32_35
  let v66 : BitVec 32 := Scalar.extui v65
  let c0_i32_36 : BitVec 32 := 0#32
  let v67 : BitVec 1 := Scalar.cmpi .ne v66 c0_i32_36
  v67

def cc2_transform_0 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_1 (i : grid2.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x2x1x4x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x2x1x4x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S2x512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x2x2x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S2x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![1], ![false]⟩

def k3_cond1 (i : grid3.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_34 : BitVec 32 := 0#32
  let v64 : BitVec 1 := Scalar.cmpi .ne v63 c0_i32_34
  v64

def k3_cond2 (i : grid3.Coords) : BitVec 1 :=
  let arg0 : BitVec 32 := BitVec.ofNat 32 (i 0).val
  let c0_i32_35 : BitVec 32 := 0#32
  let v65 : BitVec 1 := Scalar.cmpi .ne arg0 c0_i32_35
  let v66 : BitVec 32 := Scalar.extui v65
  let c0_i32_36 : BitVec 32 := 0#32
  let v67 : BitVec 1 := Scalar.cmpi .ne v66 c0_i32_36
  v67

def cc3_transform_0 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_1 (i : grid3.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x1x1x2x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x1x1x2x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x512x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x1x1x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S2x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := .none

abbrev stage4_0 : Fin 1 → Memref sig .tc .vmem S512x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S256x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S256x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S256x14 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S8x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S8x14 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S1x14 .i32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
-- ==== ReferenceIdeal.lean ====
abbrev S8x64x1x16x16x256 : Shape := ⟨6, ![8, 64, 1, 16, 16, 256]⟩
abbrev S_ : Shape := ⟨0, ![]⟩
abbrev S4x256x256x2x2 : Shape := ⟨5, ![4, 256, 256, 2, 2]⟩
abbrev S4x256 : Shape := ⟨2, ![4, 256]⟩
abbrev S256x256 : Shape := ⟨2, ![256, 256]⟩
abbrev S256 : Shape := ⟨1, ![256]⟩
abbrev S32x14 : Shape := ⟨2, ![32, 14]⟩
abbrev S32x64 : Shape := ⟨2, ![32, 64]⟩
abbrev S512x16x16x256 : Shape := ⟨4, ![512, 16, 16, 256]⟩
abbrev S512x8x2x8x2x256 : Shape := ⟨6, ![512, 8, 2, 8, 2, 256]⟩
abbrev S512x8x1x8x1x256 : Shape := ⟨6, ![512, 8, 1, 8, 1, 256]⟩
abbrev S512x8x8x256 : Shape := ⟨4, ![512, 8, 8, 256]⟩
abbrev S1x256x256x1x1 : Shape := ⟨5, ![1, 256, 256, 1, 1]⟩
abbrev S1x256 : Shape := ⟨2, ![1, 256]⟩
abbrev S1x1x1x256 : Shape := ⟨4, ![1, 1, 1, 256]⟩
abbrev S512x4x2x4x2x256 : Shape := ⟨6, ![512, 4, 2, 4, 2, 256]⟩
abbrev S512x4x1x4x1x256 : Shape := ⟨6, ![512, 4, 1, 4, 1, 256]⟩
abbrev S512x4x4x256 : Shape := ⟨4, ![512, 4, 4, 256]⟩
abbrev S512x2x2x2x2x256 : Shape := ⟨6, ![512, 2, 2, 2, 2, 256]⟩
abbrev S512x2x1x2x1x256 : Shape := ⟨6, ![512, 2, 1, 2, 1, 256]⟩
abbrev S512x2x2x256 : Shape := ⟨4, ![512, 2, 2, 256]⟩
abbrev S512x1x2x1x2x256 : Shape := ⟨6, ![512, 1, 2, 1, 2, 256]⟩
abbrev S512x1x1x1x1x256 : Shape := ⟨6, ![512, 1, 1, 1, 1, 256]⟩
abbrev S512x1x1x256 : Shape := ⟨4, ![512, 1, 1, 256]⟩
abbrev S8x64x256 : Shape := ⟨3, ![8, 64, 256]⟩
abbrev S1x1x256 : Shape := ⟨3, ![1, 1, 256]⟩
abbrev S8x256x32 : Shape := ⟨3, ![8, 256, 32]⟩
abbrev S8x256x14 : Shape := ⟨3, ![8, 256, 14]⟩
abbrev S8x14 : Shape := ⟨2, ![8, 14]⟩
abbrev S8x3 : Shape := ⟨2, ![8, 3]⟩
abbrev S8x2 : Shape := ⟨2, ![8, 2]⟩
abbrev S8 : Shape := ⟨1, ![8]⟩
abbrev S8x1 : Shape := ⟨2, ![8, 1]⟩
abbrev S8x2x1 : Shape := ⟨3, ![8, 2, 1]⟩
abbrev S8x2x2 : Shape := ⟨3, ![8, 2, 2]⟩
abbrev S14 : Shape := ⟨1, ![14]⟩

abbrev nBuf : Space → Nat
  | .hbm => 337
  | .vmem => 0
  | .smem => 0
  | _ => 0

abbrev hbmTy0_0 (i : Nat) : BufTy := match i % 128 with
  | 0 => ⟨S8x64x1x16x16x256, .f32⟩
  | 1 => ⟨S_, .i32⟩
  | 2 => ⟨S4x256x256x2x2, .f32⟩
  | 3 => ⟨S4x256, .f32⟩
  | 4 => ⟨S4x256, .f32⟩
  | 5 => ⟨S4x256, .f32⟩
  | 6 => ⟨S256x256, .f32⟩
  | 7 => ⟨S256, .f32⟩
  | 8 => ⟨S32x14, .f32⟩
  | 9 => ⟨S32x14, .f32⟩
  | 10 => ⟨S32x64, .f32⟩
  | 11 => ⟨S32x64, .f32⟩
  | 12 => ⟨S512x16x16x256, .f32⟩
  | 13 => ⟨S512x8x2x8x2x256, .f32⟩
  | 14 => ⟨S512x8x1x8x1x256, .f32⟩
  | 15 => ⟨S512x8x8x256, .f32⟩
  | 16 => ⟨S1x256x256x1x1, .f32⟩
  | 17 => ⟨S256x256, .f32⟩
  | 18 => ⟨S512x8x8x256, .f32⟩
  | 19 => ⟨S512x8x1x8x1x256, .f32⟩
  | 20 => ⟨S512x8x8x256, .f32⟩
  | 21 => ⟨S1x256x256x1x1, .f32⟩
  | 22 => ⟨S256x256, .f32⟩
  | 23 => ⟨S512x8x8x256, .f32⟩
  | 24 => ⟨S512x8x8x256, .f32⟩
  | 25 => ⟨S512x8x1x8x1x256, .f32⟩
  | 26 => ⟨S512x8x8x256, .f32⟩
  | 27 => ⟨S1x256x256x1x1, .f32⟩
  | 28 => ⟨S256x256, .f32⟩
  | 29 => ⟨S512x8x8x256, .f32⟩
  | 30 => ⟨S512x8x8x256, .f32⟩
  | 31 => ⟨S512x8x1x8x1x256, .f32⟩
  | 32 => ⟨S512x8x8x256, .f32⟩
  | 33 => ⟨S1x256x256x1x1, .f32⟩
  | 34 => ⟨S256x256, .f32⟩
  | 35 => ⟨S512x8x8x256, .f32⟩
  | 36 => ⟨S512x8x8x256, .f32⟩
  | 37 => ⟨S1x256, .f32⟩
  | 38 => ⟨S256, .f32⟩
  | 39 => ⟨S1x1x1x256, .f32⟩
  | 40 => ⟨S512x8x8x256, .f32⟩
  | 41 => ⟨S512x8x8x256, .f32⟩
  | 42 => ⟨S_, .f32⟩
  | 43 => ⟨S256, .f32⟩
  | 44 => ⟨S1x1x1x256, .f32⟩
  | 45 => ⟨S_, .f32⟩
  | 46 => ⟨S1x1x1x256, .f32⟩
  | 47 => ⟨S1x1x1x256, .f32⟩
  | 48 => ⟨S512x8x8x256, .f32⟩
  | 49 => ⟨S512x8x8x256, .f32⟩
  | 50 => ⟨S512x8x8x256, .f32⟩
  | 51 => ⟨S_, .f32⟩
  | 52 => ⟨S256, .f32⟩
  | 53 => ⟨S1x1x1x256, .f32⟩
  | 54 => ⟨S_, .f32⟩
  | 55 => ⟨S1x1x1x256, .f32⟩
  | 56 => ⟨S1x1x1x256, .f32⟩
  | 57 => ⟨S1x256, .f32⟩
  | 58 => ⟨S256, .f32⟩
  | 59 => ⟨S512x8x8x256, .f32⟩
  | 60 => ⟨S512x8x8x256, .f32⟩
  | 61 => ⟨S1x1x1x256, .f32⟩
  | 62 => ⟨S512x8x8x256, .f32⟩
  | 63 => ⟨S512x8x8x256, .f32⟩
  | 64 => ⟨S_, .f32⟩
  | 65 => ⟨S1x1x1x256, .f32⟩
  | 66 => ⟨S1x1x1x256, .f32⟩
  | 67 => ⟨S1x1x1x256, .f32⟩
  | 68 => ⟨S512x8x8x256, .f32⟩
  | 69 => ⟨S512x8x8x256, .f32⟩
  | 70 => ⟨S1x256, .f32⟩
  | 71 => ⟨S256, .f32⟩
  | 72 => ⟨S1x1x1x256, .f32⟩
  | 73 => ⟨S512x8x8x256, .f32⟩
  | 74 => ⟨S512x8x8x256, .f32⟩
  | 75 => ⟨S_, .f32⟩
  | 76 => ⟨S512x8x8x256, .f32⟩
  | 77 => ⟨S512x8x8x256, .f32⟩
  | 78 => ⟨S512x4x2x4x2x256, .f32⟩
  | 79 => ⟨S512x4x1x4x1x256, .f32⟩
  | 80 => ⟨S512x4x4x256, .f32⟩
  | 81 => ⟨S1x256x256x1x1, .f32⟩
  | 82 => ⟨S256x256, .f32⟩
  | 83 => ⟨S512x4x4x256, .f32⟩
  | 84 => ⟨S512x4x1x4x1x256, .f32⟩
  | 85 => ⟨S512x4x4x256, .f32⟩
  | 86 => ⟨S1x256x256x1x1, .f32⟩
  | 87 => ⟨S256x256, .f32⟩
  | 88 => ⟨S512x4x4x256, .f32⟩
  | 89 => ⟨S512x4x4x256, .f32⟩
  | 90 => ⟨S512x4x1x4x1x256, .f32⟩
  | 91 => ⟨S512x4x4x256, .f32⟩
  | 92 => ⟨S1x256x256x1x1, .f32⟩
  | 93 => ⟨S256x256, .f32⟩
  | 94 => ⟨S512x4x4x256, .f32⟩
  | 95 => ⟨S512x4x4x256, .f32⟩
  | 96 => ⟨S512x4x1x4x1x256, .f32⟩
  | 97 => ⟨S512x4x4x256, .f32⟩
  | 98 => ⟨S1x256x256x1x1, .f32⟩
  | 99 => ⟨S256x256, .f32⟩
  | 100 => ⟨S512x4x4x256, .f32⟩
  | 101 => ⟨S512x4x4x256, .f32⟩
  | 102 => ⟨S1x256, .f32⟩
  | 103 => ⟨S256, .f32⟩
  | 104 => ⟨S1x1x1x256, .f32⟩
  | 105 => ⟨S512x4x4x256, .f32⟩
  | 106 => ⟨S512x4x4x256, .f32⟩
  | 107 => ⟨S_, .f32⟩
  | 108 => ⟨S256, .f32⟩
  | 109 => ⟨S1x1x1x256, .f32⟩
  | 110 => ⟨S_, .f32⟩
  | 111 => ⟨S1x1x1x256, .f32⟩
  | 112 => ⟨S1x1x1x256, .f32⟩
  | 113 => ⟨S512x4x4x256, .f32⟩
  | 114 => ⟨S512x4x4x256, .f32⟩
  | 115 => ⟨S512x4x4x256, .f32⟩
  | 116 => ⟨S_, .f32⟩
  | 117 => ⟨S256, .f32⟩
  | 118 => ⟨S1x1x1x256, .f32⟩
  | 119 => ⟨S_, .f32⟩
  | 120 => ⟨S1x1x1x256, .f32⟩
  | 121 => ⟨S1x1x1x256, .f32⟩
  | 122 => ⟨S1x256, .f32⟩
  | 123 => ⟨S256, .f32⟩
  | 124 => ⟨S512x4x4x256, .f32⟩
  | 125 => ⟨S512x4x4x256, .f32⟩
  | 126 => ⟨S1x1x1x256, .f32⟩
  | 127 => ⟨S512x4x4x256, .f32⟩
  | _ => ⟨S8x64x1x16x16x256, .f32⟩

abbrev hbmTy0_1 (i : Nat) : BufTy := match i % 128 with
  | 0 => ⟨S512x4x4x256, .f32⟩
  | 1 => ⟨S_, .f32⟩
  | 2 => ⟨S1x1x1x256, .f32⟩
  | 3 => ⟨S1x1x1x256, .f32⟩
  | 4 => ⟨S1x1x1x256, .f32⟩
  | 5 => ⟨S512x4x4x256, .f32⟩
  | 6 => ⟨S512x4x4x256, .f32⟩
  | 7 => ⟨S1x256, .f32⟩
  | 8 => ⟨S256, .f32⟩
  | 9 => ⟨S1x1x1x256, .f32⟩
  | 10 => ⟨S512x4x4x256, .f32⟩
  | 11 => ⟨S512x4x4x256, .f32⟩
  | 12 => ⟨S_, .f32⟩
  | 13 => ⟨S512x4x4x256, .f32⟩
  | 14 => ⟨S512x4x4x256, .f32⟩
  | 15 => ⟨S512x2x2x2x2x256, .f32⟩
  | 16 => ⟨S512x2x1x2x1x256, .f32⟩
  | 17 => ⟨S512x2x2x256, .f32⟩
  | 18 => ⟨S1x256x256x1x1, .f32⟩
  | 19 => ⟨S256x256, .f32⟩
  | 20 => ⟨S512x2x2x256, .f32⟩
  | 21 => ⟨S512x2x1x2x1x256, .f32⟩
  | 22 => ⟨S512x2x2x256, .f32⟩
  | 23 => ⟨S1x256x256x1x1, .f32⟩
  | 24 => ⟨S256x256, .f32⟩
  | 25 => ⟨S512x2x2x256, .f32⟩
  | 26 => ⟨S512x2x2x256, .f32⟩
  | 27 => ⟨S512x2x1x2x1x256, .f32⟩
  | 28 => ⟨S512x2x2x256, .f32⟩
  | 29 => ⟨S1x256x256x1x1, .f32⟩
  | 30 => ⟨S256x256, .f32⟩
  | 31 => ⟨S512x2x2x256, .f32⟩
  | 32 => ⟨S512x2x2x256, .f32⟩
  | 33 => ⟨S512x2x1x2x1x256, .f32⟩
  | 34 => ⟨S512x2x2x256, .f32⟩
  | 35 => ⟨S1x256x256x1x1, .f32⟩
  | 36 => ⟨S256x256, .f32⟩
  | 37 => ⟨S512x2x2x256, .f32⟩
  | 38 => ⟨S512x2x2x256, .f32⟩
  | 39 => ⟨S1x256, .f32⟩
  | 40 => ⟨S256, .f32⟩
  | 41 => ⟨S1x1x1x256, .f32⟩
  | 42 => ⟨S512x2x2x256, .f32⟩
  | 43 => ⟨S512x2x2x256, .f32⟩
  | 44 => ⟨S_, .f32⟩
  | 45 => ⟨S256, .f32⟩
  | 46 => ⟨S1x1x1x256, .f32⟩
  | 47 => ⟨S_, .f32⟩
  | 48 => ⟨S1x1x1x256, .f32⟩
  | 49 => ⟨S1x1x1x256, .f32⟩
  | 50 => ⟨S512x2x2x256, .f32⟩
  | 51 => ⟨S512x2x2x256, .f32⟩
  | 52 => ⟨S512x2x2x256, .f32⟩
  | 53 => ⟨S_, .f32⟩
  | 54 => ⟨S256, .f32⟩
  | 55 => ⟨S1x1x1x256, .f32⟩
  | 56 => ⟨S_, .f32⟩
  | 57 => ⟨S1x1x1x256, .f32⟩
  | 58 => ⟨S1x1x1x256, .f32⟩
  | 59 => ⟨S1x256, .f32⟩
  | 60 => ⟨S256, .f32⟩
  | 61 => ⟨S512x2x2x256, .f32⟩
  | 62 => ⟨S512x2x2x256, .f32⟩
  | 63 => ⟨S1x1x1x256, .f32⟩
  | 64 => ⟨S512x2x2x256, .f32⟩
  | 65 => ⟨S512x2x2x256, .f32⟩
  | 66 => ⟨S_, .f32⟩
  | 67 => ⟨S1x1x1x256, .f32⟩
  | 68 => ⟨S1x1x1x256, .f32⟩
  | 69 => ⟨S1x1x1x256, .f32⟩
  | 70 => ⟨S512x2x2x256, .f32⟩
  | 71 => ⟨S512x2x2x256, .f32⟩
  | 72 => ⟨S1x256, .f32⟩
  | 73 => ⟨S256, .f32⟩
  | 74 => ⟨S1x1x1x256, .f32⟩
  | 75 => ⟨S512x2x2x256, .f32⟩
  | 76 => ⟨S512x2x2x256, .f32⟩
  | 77 => ⟨S_, .f32⟩
  | 78 => ⟨S512x2x2x256, .f32⟩
  | 79 => ⟨S512x2x2x256, .f32⟩
  | 80 => ⟨S512x1x2x1x2x256, .f32⟩
  | 81 => ⟨S512x1x1x1x1x256, .f32⟩
  | 82 => ⟨S512x1x1x256, .f32⟩
  | 83 => ⟨S1x256x256x1x1, .f32⟩
  | 84 => ⟨S256x256, .f32⟩
  | 85 => ⟨S512x1x1x256, .f32⟩
  | 86 => ⟨S512x1x1x1x1x256, .f32⟩
  | 87 => ⟨S512x1x1x256, .f32⟩
  | 88 => ⟨S1x256x256x1x1, .f32⟩
  | 89 => ⟨S256x256, .f32⟩
  | 90 => ⟨S512x1x1x256, .f32⟩
  | 91 => ⟨S512x1x1x256, .f32⟩
  | 92 => ⟨S512x1x1x1x1x256, .f32⟩
  | 93 => ⟨S512x1x1x256, .f32⟩
  | 94 => ⟨S1x256x256x1x1, .f32⟩
  | 95 => ⟨S256x256, .f32⟩
  | 96 => ⟨S512x1x1x256, .f32⟩
  | 97 => ⟨S512x1x1x256, .f32⟩
  | 98 => ⟨S512x1x1x1x1x256, .f32⟩
  | 99 => ⟨S512x1x1x256, .f32⟩
  | 100 => ⟨S1x256x256x1x1, .f32⟩
  | 101 => ⟨S256x256, .f32⟩
  | 102 => ⟨S512x1x1x256, .f32⟩
  | 103 => ⟨S512x1x1x256, .f32⟩
  | 104 => ⟨S1x256, .f32⟩
  | 105 => ⟨S256, .f32⟩
  | 106 => ⟨S1x1x1x256, .f32⟩
  | 107 => ⟨S512x1x1x256, .f32⟩
  | 108 => ⟨S512x1x1x256, .f32⟩
  | 109 => ⟨S_, .f32⟩
  | 110 => ⟨S256, .f32⟩
  | 111 => ⟨S1x1x1x256, .f32⟩
  | 112 => ⟨S_, .f32⟩
  | 113 => ⟨S1x1x1x256, .f32⟩
  | 114 => ⟨S1x1x1x256, .f32⟩
  | 115 => ⟨S512x1x1x256, .f32⟩
  | 116 => ⟨S512x1x1x256, .f32⟩
  | 117 => ⟨S512x1x1x256, .f32⟩
  | 118 => ⟨S_, .f32⟩
  | 119 => ⟨S256, .f32⟩
  | 120 => ⟨S1x1x1x256, .f32⟩
  | 121 => ⟨S_, .f32⟩
  | 122 => ⟨S1x1x1x256, .f32⟩
  | 123 => ⟨S1x1x1x256, .f32⟩
  | 124 => ⟨S1x256, .f32⟩
  | 125 => ⟨S256, .f32⟩
  | 126 => ⟨S512x1x1x256, .f32⟩
  | 127 => ⟨S512x1x1x256, .f32⟩
  | _ => ⟨S8x64x1x16x16x256, .f32⟩

abbrev hbmTy0_2 (i : Nat) : BufTy := match i % 128 with
  | 0 => ⟨S1x1x1x256, .f32⟩
  | 1 => ⟨S512x1x1x256, .f32⟩
  | 2 => ⟨S512x1x1x256, .f32⟩
  | 3 => ⟨S_, .f32⟩
  | 4 => ⟨S1x1x1x256, .f32⟩
  | 5 => ⟨S1x1x1x256, .f32⟩
  | 6 => ⟨S1x1x1x256, .f32⟩
  | 7 => ⟨S512x1x1x256, .f32⟩
  | 8 => ⟨S512x1x1x256, .f32⟩
  | 9 => ⟨S1x256, .f32⟩
  | 10 => ⟨S256, .f32⟩
  | 11 => ⟨S1x1x1x256, .f32⟩
  | 12 => ⟨S512x1x1x256, .f32⟩
  | 13 => ⟨S512x1x1x256, .f32⟩
  | 14 => ⟨S_, .f32⟩
  | 15 => ⟨S512x1x1x256, .f32⟩
  | 16 => ⟨S512x1x1x256, .f32⟩
  | 17 => ⟨S8x64x256, .f32⟩
  | 18 => ⟨S8x64x256, .f32⟩
  | 19 => ⟨S1x1x256, .f32⟩
  | 20 => ⟨S8x64x256, .f32⟩
  | 21 => ⟨S8x64x256, .f32⟩
  | 22 => ⟨S8x256x32, .f32⟩
  | 23 => ⟨S8x256x32, .f32⟩
  | 24 => ⟨S8x256x32, .f32⟩
  | 25 => ⟨S8x256x32, .f32⟩
  | 26 => ⟨S8x256x32, .f32⟩
  | 27 => ⟨S8x256x32, .f32⟩
  | 28 => ⟨S8x256x14, .f32⟩
  | 29 => ⟨S_, .f32⟩
  | 30 => ⟨S8x14, .f32⟩
  | 31 => ⟨S_, .f32⟩
  | 32 => ⟨S8x14, .f32⟩
  | 33 => ⟨S8x14, .f32⟩
  | 34 => ⟨S8x3, .f32⟩
  | 35 => ⟨S8x3, .i32⟩
  | 36 => ⟨S8x2, .f32⟩
  | 37 => ⟨S_, .f32⟩
  | 38 => ⟨S8, .f32⟩
  | 39 => ⟨S_, .f32⟩
  | 40 => ⟨S8, .f32⟩
  | 41 => ⟨S8, .f32⟩
  | 42 => ⟨S8x1, .f32⟩
  | 43 => ⟨S8x2, .f32⟩
  | 44 => ⟨S8x2, .f32⟩
  | 45 => ⟨S8x2, .f32⟩
  | 46 => ⟨S_, .f32⟩
  | 47 => ⟨S8, .f32⟩
  | 48 => ⟨S8x1, .f32⟩
  | 49 => ⟨S8x2, .f32⟩
  | 50 => ⟨S8x2, .f32⟩
  | 51 => ⟨S_, .f32⟩
  | 52 => ⟨S8x14, .f32⟩
  | 53 => ⟨S8, .i32⟩
  | 54 => ⟨S8x1, .i32⟩
  | 55 => ⟨S8x2, .i32⟩
  | 56 => ⟨S_, .i32⟩
  | 57 => ⟨S8x1, .i32⟩
  | 58 => ⟨S8x1, .i1⟩
  | 59 => ⟨S_, .i32⟩
  | 60 => ⟨S8x1, .i32⟩
  | 61 => ⟨S8x1, .i32⟩
  | 62 => ⟨S8x1, .i32⟩
  | 63 => ⟨S_, .i32⟩
  | 64 => ⟨S8x2, .i32⟩
  | 65 => ⟨S8x2, .i1⟩
  | 66 => ⟨S_, .i32⟩
  | 67 => ⟨S8x2, .i32⟩
  | 68 => ⟨S8x2, .i32⟩
  | 69 => ⟨S8x2, .i32⟩
  | 70 => ⟨S8x2, .i32⟩
  | 71 => ⟨S8x2x1, .i32⟩
  | 72 => ⟨S8x2x1, .i32⟩
  | 73 => ⟨S8x2x2, .i32⟩
  | 74 => ⟨S8x14, .f32⟩
  | 75 => ⟨S_, .f32⟩
  | 76 => ⟨S8x14, .f32⟩
  | 77 => ⟨S8x14, .i1⟩
  | 78 => ⟨S8x14, .i32⟩
  | 79 => ⟨S_, .i32⟩
  | 80 => ⟨S14, .i32⟩
  | _ => ⟨S8x64x1x16x16x256, .f32⟩

abbrev hbmTy (i : Nat) : BufTy := match i / 128 with
  | 0 => hbmTy0_0 i
  | 1 => hbmTy0_1 i
  | 2 => hbmTy0_2 i
  | _ => ⟨S8x64x1x16x16x256, .f32⟩

abbrev bufTy : (tb : Table) → Fin (tcTables nBuf tb) → BufTy
  | .hbm, ⟨i, _⟩ => hbmTy i
  | _, _ => ⟨S8x64x1x16x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_cst : Ref sig .tc := ⟨.hbm, 75, rfl⟩
abbrev main_call0_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_6 : Ref sig .tc := ⟨.hbm, 107, rfl⟩
abbrev main_v88 : Ref sig .tc := ⟨.hbm, 108, rfl⟩
abbrev main_v89 : Ref sig .tc := ⟨.hbm, 109, rfl⟩
abbrev main_cst_7 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_8 : Ref sig .tc := ⟨.hbm, 116, rfl⟩
abbrev main_v95 : Ref sig .tc := ⟨.hbm, 117, rfl⟩
abbrev main_v96 : Ref sig .tc := ⟨.hbm, 118, rfl⟩
abbrev main_cst_9 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_call1_cst : Ref sig .tc := ⟨.hbm, 140, rfl⟩
abbrev main_call1_v0 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_11 : Ref sig .tc := ⟨.hbm, 172, rfl⟩
abbrev main_v146 : Ref sig .tc := ⟨.hbm, 173, rfl⟩
abbrev main_v147 : Ref sig .tc := ⟨.hbm, 174, rfl⟩
abbrev main_cst_12 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_cst_13 : Ref sig .tc := ⟨.hbm, 181, rfl⟩
abbrev main_v153 : Ref sig .tc := ⟨.hbm, 182, rfl⟩
abbrev main_v154 : Ref sig .tc := ⟨.hbm, 183, rfl⟩
abbrev main_cst_14 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_cst_15 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_call2_cst : Ref sig .tc := ⟨.hbm, 205, rfl⟩
abbrev main_call2_v0 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_cst_16 : Ref sig .tc := ⟨.hbm, 237, rfl⟩
abbrev main_v204 : Ref sig .tc := ⟨.hbm, 238, rfl⟩
abbrev main_v205 : Ref sig .tc := ⟨.hbm, 239, rfl⟩
abbrev main_cst_17 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_cst_18 : Ref sig .tc := ⟨.hbm, 246, rfl⟩
abbrev main_v211 : Ref sig .tc := ⟨.hbm, 247, rfl⟩
abbrev main_v212 : Ref sig .tc := ⟨.hbm, 248, rfl⟩
abbrev main_cst_19 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_20 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_call3_cst : Ref sig .tc := ⟨.hbm, 270, rfl⟩
abbrev main_call3_v0 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_cst_21 : Ref sig .tc := ⟨.hbm, 285, rfl⟩
abbrev main_v245 : Ref sig .tc := ⟨.hbm, 286, rfl⟩
abbrev main_cst_22 : Ref sig .tc := ⟨.hbm, 287, rfl⟩
abbrev main_v246 : Ref sig .tc := ⟨.hbm, 288, rfl⟩
abbrev main_v247 : Ref sig .tc := ⟨.hbm, 289, rfl⟩
abbrev main_values : Ref sig .tc := ⟨.hbm, 290, rfl⟩
abbrev main_indices : Ref sig .tc := ⟨.hbm, 291, rfl⟩
abbrev main_v248 : Ref sig .tc := ⟨.hbm, 292, rfl⟩
abbrev main_cst_23 : Ref sig .tc := ⟨.hbm, 293, rfl⟩
abbrev main_v249 : Ref sig .tc := ⟨.hbm, 294, rfl⟩
abbrev main_cst_24 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_cst_25 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_cst_26 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_c : Ref sig .tc := ⟨.hbm, 312, rfl⟩
abbrev main_v264 : Ref sig .tc := ⟨.hbm, 313, rfl⟩
abbrev main_v265 : Ref sig .tc := ⟨.hbm, 314, rfl⟩
abbrev main_c_27 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_c_28 : Ref sig .tc := ⟨.hbm, 319, rfl⟩
abbrev main_v269 : Ref sig .tc := ⟨.hbm, 320, rfl⟩
abbrev main_v270 : Ref sig .tc := ⟨.hbm, 321, rfl⟩
abbrev main_c_29 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_cst_30 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_c_31 : Ref sig .tc := ⟨.hbm, 335, rfl⟩
abbrev main_v282 : Ref sig .tc := ⟨.hbm, 336, rfl⟩

abbrev nD : Nat := 1
abbrev τ : Topo := Topo.v7x

variable {F : FTy → Type} [FloatOps F]
-- ==== Proof.KernelIdealRun.Region0.lean ====
/- `KernelIdeal`: region 0 of @main: its blocks, its body run and its proof data, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__conv_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof data whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof data whose array is `V`'s (`hA`) and whose body leaves the block in place (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer is FRESH at each position `1 ‥ N`. -/
def freshTab0_7 : ℕ → Bool
  | 0 => true
  | n + 1 => (0x80 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the window's buffer is not FRESH. -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 6, through which its contents are stated (`View.read_writes_of_cover`: the
    choice does not matter). -/
abbrev VO0_6 : View sig .tc .vmem S64x8x8x256 .bf16 := (Memref.whole cc0_stg6_0 : Memref sig .tc .vmem S64x8x8x256 .bf16).view
/-- One staging buffer of output window 7, through which its contents are stated (`View.read_writes_of_cover`: the
    choice does not matter). -/
abbrev VO0_7 : View sig .tc .vmem S2x256 .f32 := (Memref.whole cc0_stg7_0 : Memref sig .tc .vmem S2x256 .f32).view
/-- Each window's current staging memref at point `t`, spelled as the pipeline passes it (`bodyAt0`), and its wholeness. -/
abbrev ms0_0 (t : Fin cfg0.N) : Memref sig .tc .vmem S64x8x1x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8x1x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x8x8x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
set_option maxHeartbeats 1000000 in
/-- What the body's stores leave in each output's staging memref, as pieces (last first) IN CASE A (`scf.if` 0 taken, `scf.if` 1 not taken. -/
noncomputable def kernelRun0_A (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : cond0_0 i) (hc1 : ¬cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) :
    Σ' (L6 : List (View.Piece (Elt F) S64x8x8x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__conv_body i arg1 harg1 arg2 harg2 arg3 harg3 arg4 harg4 arg5 harg5 arg6 harg6 arg7 harg7 arg8 harg8) K } := by
  refine ⟨?_, ?_, fun E K => ?run⟩
  case run =>
    simp only [cc0__conv_body_eq_skeleton]; unfold cc0__conv_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block, so they cover it. -/
theorem cover0_A_6 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : cond0_0 i) (hc1 : ¬cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (y : S64x8x8x256.Idx) :
    ∃ pc ∈ (kernelRun0_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4 x5).1 S64x8x8x256.size (by sl_kernel_rfl) y

/-- What case A leaves in output 6's staging buffer: its pieces read back over junk. -/
def out0_A_6 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : cond0_0 i) (hc1 : ¬cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) : Vec F S64x8x8x256 .bf16 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1 x2 x3 x4 x5).1)

/-- Case A's pieces for output 7 tile its block, so they cover it. -/
theorem cover0_A_7 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : cond0_0 i) (hc1 : ¬cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (y : S2x256.Idx) :
    ∃ pc ∈ (kernelRun0_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4 x5).2.1 S2x256.size (by sl_kernel_rfl) y

/-- What case A leaves in output 7's staging buffer: its pieces read back over junk. -/
def out0_A_7 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : cond0_0 i) (hc1 : ¬cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) : Vec F S2x256 .f32 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1 x2 x3 x4 x5).2.1)
set_option maxHeartbeats 1000000 in
/-- What the body's stores leave in each output's staging memref, as pieces (last first) IN CASE B (`scf.if` 0 not taken, `scf.if` 1 taken. -/
noncomputable def kernelRun0_B (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : ¬cond0_0 i) (hc1 : cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (xo7 : Vec F S2x256 .f32) :
    Σ' (L6 : List (View.Piece (Elt F) S64x8x8x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__conv_body i arg1 harg1 arg2 harg2 arg3 harg3 arg4 harg4 arg5 harg5 arg6 harg6 arg7 harg7 arg8 harg8) K } := by
  refine ⟨?_, ?_, fun E K => ?run⟩
  case run =>
    simp only [cc0__conv_body_eq_skeleton]; unfold cc0__conv_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block, so they cover it. -/
theorem cover0_B_6 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : ¬cond0_0 i) (hc1 : cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (xo7 : Vec F S2x256 .f32) (y : S64x8x8x256.Idx) :
    ∃ pc ∈ (kernelRun0_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 x5 xo7).1 S64x8x8x256.size (by sl_kernel_rfl) y

/-- What case B leaves in output 6's staging buffer: its pieces read back over junk. -/
def out0_B_6 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : ¬cond0_0 i) (hc1 : cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (xo7 : Vec F S2x256 .f32) : Vec F S64x8x8x256 .bf16 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 x2 x3 x4 x5 xo7).1)

/-- Case B's pieces for output 7 tile its block, so they cover it. -/
theorem cover0_B_7 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : ¬cond0_0 i) (hc1 : cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (xo7 : Vec F S2x256 .f32) (y : S2x256.Idx) :
    ∃ pc ∈ (kernelRun0_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 x5 xo7).2.1 S2x256.size (by sl_kernel_rfl) y

/-- What case B leaves in output 7's staging buffer: its pieces read back over junk. -/
def out0_B_7 (c : Dev nD) (i : grid0.Coords) (arg1 : Memref sig .tc .vmem S64x8x1x16x256 .f32) (harg1 : arg1.IsWhole) (arg2 : Memref sig .tc .vmem S64x8x1x16x256 .f32) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x8x8x256 .bf16) (harg7 : arg7.IsWhole) (arg8 : Memref sig .tc .vmem S2x256 .f32) (harg8 : arg8.IsWhole) (hc0 : ¬cond0_0 i) (hc1 : cond0_1 i)
    (x0 : Vec F S64x8x1x16x256 .f32) (x1 : Vec F S64x8x1x16x256 .f32) (x2 : Vec F S2x512x256 .bf16) (x3 : Vec F S2x256 .f32) (x4 : Vec F S1x256 .f32) (x5 : Vec F S1x256 .f32) (xo7 : Vec F S2x256 .f32) : Vec F S2x256 .f32 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 x2 x3 x4 x5 xo7).2.1)

/-! ## What the outputs hold after each point -/

/-- THE ACCUMULATION. What the outputs' staging buffers hold after the body at position `n` (a tuple, in window order). -/
def outsAt0 (c : Dev nD) : (n : ℕ) → n < cfg0.N → Vec F S64x8x8x256 .bf16 × Vec F S2x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : 1 ≤ (n + 1) then
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2
  Φ _ := Pipeline.ΦA spec0 c
  q w := Pipeline.shareOf spec0 w
  owed _ := 0

/-- The proof data's arrays are the region-entry contents. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- Output 7's contents CARRY through the points that leave it idle. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 8 := lt_of_lt_of_eq t.isLt (show cfg0.N = 8 from N_0)
  rw [after0_7, after0_7]
  by_cases h0 : t.val % 8 = 0
  · by_cases h1 : 1 ≤ t.val
    · exfalso; omega
    · rw [liveAt0_7_A t ((hcond0_0 t).mpr h0) (fun h => h1 ((hcond0_1 t).mp h))] at hi
      exact absurd hi Bool.false_ne_true
  · by_cases h1 : 1 ≤ t.val
    · rw [liveAt0_7_B t (fun h => h0 ((hcond0_0 t).mp h)) ((hcond0_1 t).mpr h1)] at hi
      exact absurd hi Bool.false_ne_true
    · exfalso; omega
/-- At a point of case B output 7's current staging buffer holds what the point before left: the buffer is not fresh
    there. -/
theorem before0_7_B (c : Dev nD) (t : Fin cfg0.N) (h0 : ¬t.val % 8 = 0) (h1 : 1 ≤ t.val) (d) :
    (dat0 V c).before 7 t d = (outsAt0 V c (t.val - 1) (Nat.lt_of_le_of_lt (Nat.sub_le _ _) t.isLt)).2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The body at any point: the inputs' memrefs hold their blocks (`before0_W`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  have hN : t.val < 8 := lt_of_lt_of_eq t.isLt (show cfg0.N = 8 from N_0)
  by_cases h0 : t.val % 8 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [outsAt0_A V c t h0 h1]
      unfold out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [outsAt0_B V c t h0 h1]
      simp only [before0_7_B V c t h0 h1]
      unfold out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.KernelIdealRun.Region1.lean ====
/- `KernelIdeal`: region 1 of @main: its blocks, its body run and its proof data, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__conv_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [cond1_0, k1_cond1, e0]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 4 := Nat.lt_of_lt_of_eq t.isLt N_1
    have e0 : (grid1.coords t 0).val = t.val / 1 % 4 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Whether output 7's buffer is FRESH at each position `1 ‥ N`. -/
def freshTab1_7 : ℕ → Bool
  | 0 => true
  | n + 1 => (0x8 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
/-- At the points of case A the printed configuration (`Cfg.idle`) calls output 7 live: the case stores into it. -/
theorem liveAt1_7_A : ∀ t : Fin cfg1.N, cond1_0 (grid1.coords t) → ¬cond1_1 (grid1.coords t) → cfg1.idle 7 (grid1.coords t) = false := by decide +kernel
/-- At the points of case B the printed configuration (`Cfg.idle`) calls output 7 live: the case stores into it. -/
theorem liveAt1_7_B : ∀ t : Fin cfg1.N, ¬cond1_0 (grid1.coords t) → cond1_1 (grid1.coords t) → cfg1.idle 7 (grid1.coords t) = false := by decide +kernel
/-- At the points of case B, which keeps output 7's prior contents (reads it before covering, or covers it in part), the window's buffer is not FRESH. -/
theorem notFresh1_7_B : ∀ t : Fin cfg1.N, ¬cond1_0 (grid1.coords t) → cond1_1 (grid1.coords t) → cfg1.fresh 7 t.val = false := by
  intro t; rw [fresh1_7_eq t]; revert t; decide +kernel

/-! ## The kernel body on any staging memrefs: a subtype the run finds -/

/-- One staging buffer of output window 6, through which its contents are stated (`View.read_writes_of_cover`: the
    choice does not matter). -/
abbrev VO1_6 : View sig .tc .vmem S128x4x4x256 .bf16 := (Memref.whole cc1_stg6_0 : Memref sig .tc .vmem S128x4x4x256 .bf16).view
/-- One staging buffer of output window 7, through which its contents are stated (`View.read_writes_of_cover`: the
    choice does not matter). -/
abbrev VO1_7 : View sig .tc .vmem S2x256 .f32 := (Memref.whole cc1_stg7_0 : Memref sig .tc .vmem S2x256 .f32).view
/-- Each window's current staging memref at point `t`, spelled as the pipeline passes it (`bodyAt1`), and its wholeness. -/
abbrev ms1_0 (t : Fin cfg1.N) : Memref sig .tc .vmem S128x4x1x8x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4x1x8x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4x4x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x256 .f32 := win1_7.stage (cfg1.slots t 7)
abbrev hs1_7 (t : Fin cfg1.N) : (ms1_7 t).IsWhole := hstage1_7 ((cfg1.slots t 7).cast nbuf1_7)
set_option maxHeartbeats 1000000 in
/-- What the body's stores leave in each output's staging memref, as pieces (last first) IN CASE A (`scf.if` 0 taken, `scf.if` 1 not taken. -/
noncomputable def kernelRun1_A (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : cond1_0 i) (hc1 : ¬cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) :
    Σ' (L6 : List (View.Piece (Elt F) S128x4x4x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1__conv_body i arg1 harg1 arg2 harg2 arg3 harg3 arg4 harg4 arg5 harg5 arg6 harg6 arg7 harg7 arg8 harg8) K } := by
  refine ⟨?_, ?_, fun E K => ?run⟩
  case run =>
    simp only [cc1__conv_body_eq_skeleton]; unfold cc1__conv_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block, so they cover it. -/
theorem cover1_A_6 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : cond1_0 i) (hc1 : ¬cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (y : S128x4x4x256.Idx) :
    ∃ pc ∈ (kernelRun1_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).1 S128x4x4x256.size (by sl_kernel_rfl) y

/-- What case A leaves in output 6's staging buffer: its pieces read back over junk. -/
def out1_A_6 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : cond1_0 i) (hc1 : ¬cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) : Vec F S128x4x4x256 .bf16 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

/-- Case A's pieces for output 7 tile its block, so they cover it. -/
theorem cover1_A_7 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : cond1_0 i) (hc1 : ¬cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (y : S2x256.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S2x256.size (by sl_kernel_rfl) y

/-- What case A leaves in output 7's staging buffer: its pieces read back over junk. -/
def out1_A_7 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : cond1_0 i) (hc1 : ¬cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) : Vec F S2x256 .f32 :=
  VO1_7.read (Elt F) (VO1_7.writes (Elt F) VO1_7.junk (kernelRun1_A c i arg1 harg1 arg2 harg2 arg3 harg3 arg4 harg4 arg5 harg5 arg6 harg6 arg7 harg7 arg8 harg8 hc0 hc1 x0 x1 x2 x3 x4 x5).2.1)
set_option maxHeartbeats 1000000 in
/-- What the body's stores leave in each output's staging memref, as pieces (last first) IN CASE B (`scf.if` 0 not taken, `scf.if` 1 taken. -/
noncomputable def kernelRun1_B (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : ¬cond1_0 i) (hc1 : cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (xo7 : Vec F S2x256 .f32) :
    Σ' (L6 : List (View.Piece (Elt F) S128x4x4x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1__conv_body i arg1 harg1 arg2 harg2 arg3 harg3 arg4 harg4 arg5 harg5 arg6 harg6 arg7 harg7 arg8 harg8) K } := by
  refine ⟨?_, ?_, fun E K => ?run⟩
  case run =>
    simp only [cc1__conv_body_eq_skeleton]; unfold cc1__conv_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block, so they cover it. -/
theorem cover1_B_6 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : ¬cond1_0 i) (hc1 : cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (xo7 : Vec F S2x256 .f32) (y : S128x4x4x256.Idx) :
    ∃ pc ∈ (kernelRun1_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo7).1 S128x4x4x256.size (by sl_kernel_rfl) y

/-- What case B leaves in output 6's staging buffer: its pieces read back over junk. -/
def out1_B_6 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : ¬cond1_0 i) (hc1 : cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (xo7 : Vec F S2x256 .f32) : Vec F S128x4x4x256 .bf16 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xo7).1)

/-- Case B's pieces for output 7 tile its block, so they cover it. -/
theorem cover1_B_7 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : ¬cond1_0 i) (hc1 : cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (xo7 : Vec F S2x256 .f32) (y : S2x256.Idx) :
    ∃ pc ∈ (kernelRun1_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo7).2.1 S2x256.size (by sl_kernel_rfl) y

/-- What case B leaves in output 7's staging buffer: its pieces read back over junk. -/
def out1_B_7 (c : Dev nD) (i : grid1.Coords) (arg1 : Memref sig .tc .vmem S128x4x1x8x256 .bf16) (harg1 : arg1.IsWhole) (arg2 : Memref sig .tc .vmem S128x4x1x8x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x4x4x256 .bf16) (harg7 : arg7.IsWhole) (arg8 : Memref sig .tc .vmem S2x256 .f32) (harg8 : arg8.IsWhole) (hc0 : ¬cond1_0 i) (hc1 : cond1_1 i)
    (x0 : Vec F S128x4x1x8x256 .bf16) (x1 : Vec F S128x4x1x8x256 .bf16) (x2 : Vec F S2x512x256 .bf16) (x3 : Vec F S2x256 .f32) (x4 : Vec F S1x256 .f32) (x5 : Vec F S1x256 .f32) (xo7 : Vec F S2x256 .f32) : Vec F S2x256 .f32 :=
  VO1_7.read (Elt F) (VO1_7.writes (Elt F) VO1_7.junk (kernelRun1_B c i arg1 harg1 arg2 harg2 arg3 harg3 arg4 harg4 arg5 harg5 arg6 harg6 arg7 harg7 arg8 harg8 hc0 hc1 x0 x1 x2 x3 x4 x5 xo7).2.1)

/-! ## What the outputs hold after each point -/

/-- THE ACCUMULATION. What the outputs' staging buffers hold after the body at position `n` (a tuple, in window order). -/
def outsAt1 (c : Dev nD) : (n : ℕ) → n < cfg1.N → Vec F S128x4x4x256 .bf16 × Vec F S2x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : 1 ≤ (n + 1) then
        False.elim (by have hN : n + 1 < 4 := lt_of_lt_of_eq hn (show cfg1.N = 4 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : 1 ≤ (n + 1) then
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        False.elim (by have hN : n + 1 < 4 := lt_of_lt_of_eq hn (show cfg1.N = 4 from N_1); omega)

/-- `outsAt1` at a point of case A: that case's contents. -/
theorem outsAt1_A (c : Dev nD) (t : Fin cfg1.N) (h0 : t.val % 4 = 0) (h1 : ¬1 ≤ t.val) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : 1 ≤ t.val) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q w := Pipeline.shareOf spec1 w
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Output 7's contents CARRY through the points that leave it idle. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 4 := lt_of_lt_of_eq t.isLt (show cfg1.N = 4 from N_1)
  rw [after1_7, after1_7]
  by_cases h0 : t.val % 4 = 0
  · by_cases h1 : 1 ≤ t.val
    · exfalso; omega
    · rw [liveAt1_7_A t ((hcond1_0 t).mpr h0) (fun h => h1 ((hcond1_1 t).mp h))] at hi
      exact absurd hi Bool.false_ne_true
  · by_cases h1 : 1 ≤ t.val
    · rw [liveAt1_7_B t (fun h => h0 ((hcond1_0 t).mp h)) ((hcond1_1 t).mpr h1)] at hi
      exact absurd hi Bool.false_ne_true
    · exfalso; omega
/-- At a point of case B output 7's current staging buffer holds what the point before left: the buffer is not fresh
    there. -/
theorem before1_7_B (c : Dev nD) (t : Fin cfg1.N) (h0 : ¬t.val % 4 = 0) (h1 : 1 ≤ t.val) (d) :
    (dat1 V c).before 7 t d = (outsAt1 V c (t.val - 1) (Nat.lt_of_le_of_lt (Nat.sub_le _ _) t.isLt)).2 := by
  rw [Dat.before_out_traj _ 7 rfl (fun _ _ => rfl) (hcarry1_7 V c) t.val t rfl d,
    if_neg (by rw [notFresh1_7_B t (fun h => h0 ((hcond1_0 t).mp h)) ((hcond1_1 t).mpr h1)]; exact Bool.false_ne_true)]
  dsimp only [dat1]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point: the inputs' memrefs hold their blocks (`before1_W`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 4 := lt_of_lt_of_eq t.isLt (show cfg1.N = 4 from N_1)
  by_cases h0 : t.val % 4 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_A t ((hcond1_0 t).mpr h0) (fun h => h1 ((hcond1_1 t).mp h))], after1_7]
      rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [outsAt1_B V c t h0 h1]
      simp only [before1_7_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KernelIdealRun.Region2.lean ====
/- `KernelIdeal`: region 2 of @main: its blocks, its body run and its proof data, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__conv_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof data whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof data whose array is `V`'s (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof data whose array is `V`'s (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof data whose array is `V`'s (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof data whose array is `V`'s (`hA`) and whose body leaves the block in place (`hafter`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at every point — by arithmetic of the point. -/
theorem hcond2_0 : ∀ t : Fin cfg2.N, cond2_0 (grid2.coords t) :=
  (fun t => by
    have ht : t.val < 1 := Nat.lt_of_lt_of_eq t.isLt N_2
    have e0 : (grid2.coords t 0).val = t.val / 1 % 1 := Pipeline.Grid.coords_val t 0 (by decide) rfl
    simp only [cond2_0, k2_cond1, e0]
    word_cmp
   : ∀ t : Fin grid2.N, cond2_0 (grid2.coords t))

/-- The condition of the body's `scf.if` 1 (`k2_h2`), from the grid coordinates (the skeleton's scalar
    chain substituted). -/
abbrev cond2_1 (i : grid2.Coords) : Prop := k2_cond2 i = 1#1
/-- It holds at no point — by arithmetic of the point. -/
theorem hcond2_1 : ∀ t : Fin cfg2.N, ¬cond2_1 (grid2.coords t) :=
  (fun t => by
    have ht : t.val < 1 := Nat.lt_of_lt_of_eq t.isLt N_2
    have e0 : (grid2.coords t 0).val = t.val / 1 % 1 := Pipeline.Grid.coords_val t 0 (by decide) rfl
    simp only [cond2_1, k2_cond2, e0]
    word_cmp
   : ∀ t : Fin grid2.N, ¬cond2_1 (grid2.coords t))

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Window 6 is never idle (an output stored at every point, under no condition). -/
theorem liveAt2_6 : ∀ t : Fin cfg2.N, cfg2.idle 6 (grid2.coords t) = false := fun _ => rfl
/-- At the points of case A the printed configuration (`Cfg.idle`) calls output 7 live: the case stores into it. -/
theorem liveAt2_7_A : ∀ t : Fin cfg2.N, cond2_0 (grid2.coords t) → ¬cond2_1 (grid2.coords t) → cfg2.idle 7 (grid2.coords t) = false := by decide +kernel

/-! ## The kernel body on any staging memrefs: a subtype the run finds -/

/-- One staging buffer of output window 6, through which its contents are stated (`View.read_writes_of_cover`: the
    choice does not matter). -/
abbrev VO2_6 : View sig .tc .vmem S512x2x2x256 .bf16 := (Memref.whole cc2_stg6_0 : Memref sig .tc .vmem S512x2x2x256 .bf16).view
/-- One staging buffer of output window 7, through which its contents are stated (`View.read_writes_of_cover`: the
    choice does not matter). -/
abbrev VO2_7 : View sig .tc .vmem S2x256 .f32 := (Memref.whole cc2_stg7_0 : Memref sig .tc .vmem S2x256 .f32).view
/-- Each window's current staging memref at point `t`, spelled as the pipeline passes it (`bodyAt2`), and its wholeness. -/
abbrev ms2_0 (t : Fin cfg2.N) : Memref sig .tc .vmem S512x2x1x4x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2x1x4x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2x512x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x2x2x256 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2x256 .f32 := win2_7.stage (cfg2.slots t 7)
abbrev hs2_7 (t : Fin cfg2.N) : (ms2_7 t).IsWhole := hstage2_7 ((cfg2.slots t 7).cast nbuf2_7)
set_option maxHeartbeats 1000000 in
/-- What the body's stores leave in each output's staging memref, as pieces (last first). -/
noncomputable def kernelRun2_A (c : Dev nD) (i : grid2.Coords) (arg1 : Memref sig .tc .vmem S512x2x1x4x256 .bf16) (harg1 : arg1.IsWhole) (arg2 : Memref sig .tc .vmem S512x2x1x4x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x2x2x256 .bf16) (harg7 : arg7.IsWhole) (arg8 : Memref sig .tc .vmem S2x256 .f32) (harg8 : arg8.IsWhole) (hc0 : cond2_0 i) (hc1 : ¬cond2_1 i)
    (x0 : Vec F S512x2x1x4x256 .bf16) (x1 : Vec F S512x2x1x4x256 .bf16) (x2 : Vec F S2x512x256 .bf16) (x3 : Vec F S2x256 .f32) (x4 : Vec F S1x256 .f32) (x5 : Vec F S1x256 .f32) :
    Σ' (L6 : List (View.Piece (Elt F) S512x2x2x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__conv_body i arg1 harg1 arg2 harg2 arg3 harg3 arg4 harg4 arg5 harg5 arg6 harg6 arg7 harg7 arg8 harg8) K } := by
  refine ⟨?_, ?_, fun E K => ?run⟩
  case run =>
    simp only [cc2__conv_body_eq_skeleton]; unfold cc2__conv_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block, so they cover it. -/
theorem cover2_A_6 (c : Dev nD) (i : grid2.Coords) (arg1 : Memref sig .tc .vmem S512x2x1x4x256 .bf16) (harg1 : arg1.IsWhole) (arg2 : Memref sig .tc .vmem S512x2x1x4x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x2x2x256 .bf16) (harg7 : arg7.IsWhole) (arg8 : Memref sig .tc .vmem S2x256 .f32) (harg8 : arg8.IsWhole) (hc0 : cond2_0 i) (hc1 : ¬cond2_1 i)
    (x0 : Vec F S512x2x1x4x256 .bf16) (x1 : Vec F S512x2x1x4x256 .bf16) (x2 : Vec F S2x512x256 .bf16) (x3 : Vec F S2x256 .f32) (x4 : Vec F S1x256 .f32) (x5 : Vec F S1x256 .f32) (y : S512x2x2x256.Idx) :
    ∃ pc ∈ (kernelRun2_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).1 S512x2x2x256.size (by sl_kernel_rfl) y

/-- What the run leaves in output 6's staging buffer: its pieces read back over junk. -/
def out2_A_6 (c : Dev nD) (i : grid2.Coords) (arg1 : Memref sig .tc .vmem S512x2x1x4x256 .bf16) (harg1 : arg1.IsWhole) (arg2 : Memref sig .tc .vmem S512x2x1x4x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x2x2x256 .bf16) (harg7 : arg7.IsWhole) (arg8 : Memref sig .tc .vmem S2x256 .f32) (harg8 : arg8.IsWhole) (hc0 : cond2_0 i) (hc1 : ¬cond2_1 i)
    (x0 : Vec F S512x2x1x4x256 .bf16) (x1 : Vec F S512x2x1x4x256 .bf16) (x2 : Vec F S2x512x256 .bf16) (x3 : Vec F S2x256 .f32) (x4 : Vec F S1x256 .f32) (x5 : Vec F S1x256 .f32) : Vec F S512x2x2x256 .bf16 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- The run's pieces for output 7 tile its block, so they cover it. -/
theorem cover2_A_7 (c : Dev nD) (i : grid2.Coords) (arg1 : Memref sig .tc .vmem S512x2x1x4x256 .bf16) (harg1 : arg1.IsWhole) (arg2 : Memref sig .tc .vmem S512x2x1x4x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x2x2x256 .bf16) (harg7 : arg7.IsWhole) (arg8 : Memref sig .tc .vmem S2x256 .f32) (harg8 : arg8.IsWhole) (hc0 : cond2_0 i) (hc1 : ¬cond2_1 i)
    (x0 : Vec F S512x2x1x4x256 .bf16) (x1 : Vec F S512x2x1x4x256 .bf16) (x2 : Vec F S2x512x256 .bf16) (x3 : Vec F S2x256 .f32) (x4 : Vec F S1x256 .f32) (x5 : Vec F S1x256 .f32) (y : S2x256.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S2x256.size (by sl_kernel_rfl) y

/-- What the run leaves in output 7's staging buffer: its pieces read back over junk. -/
def out2_A_7 (c : Dev nD) (i : grid2.Coords) (arg1 : Memref sig .tc .vmem S512x2x1x4x256 .bf16) (harg1 : arg1.IsWhole) (arg2 : Memref sig .tc .vmem S512x2x1x4x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x2x2x256 .bf16) (harg7 : arg7.IsWhole) (arg8 : Memref sig .tc .vmem S2x256 .f32) (harg8 : arg8.IsWhole) (hc0 : cond2_0 i) (hc1 : ¬cond2_1 i)
    (x0 : Vec F S512x2x1x4x256 .bf16) (x1 : Vec F S512x2x1x4x256 .bf16) (x2 : Vec F S2x512x256 .bf16) (x3 : Vec F S2x256 .f32) (x4 : Vec F S1x256 .f32) (x5 : Vec F S1x256 .f32) : Vec F S2x256 .f32 :=
  VO2_7.read (Elt F) (VO2_7.writes (Elt F) VO2_7.junk (kernelRun2_A c i arg1 harg1 arg2 harg2 arg3 harg3 arg4 harg4 arg5 harg5 arg6 harg6 arg7 harg7 arg8 harg8 hc0 hc1 x0 x1 x2 x3 x4 x5).2.1)

/-! ## What the outputs hold after each point -/

/-- What the outputs' staging buffers hold after the body at point `t` (as a tuple, in window order): the run's contents at
    the point's memrefs and input blocks. -/
def outsAt2 (c : Dev nD) (t : Fin cfg2.N) : Vec F S512x2x2x256 .bf16 × Vec F S2x256 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (hcond2_0 t) (hcond2_1 t) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (hcond2_0 t) (hcond2_1 t) (iblk2 V c 0 t) (iblk2 V c 1 t) (iblk2 V c 2 t) (iblk2 V c 3 t) (iblk2 V c 4 t) (iblk2 V c 5 t))

/-! ## The pipeline's proof data -/

/-- The proof data of pipeline 2 on core `c`: the arrays as the region finds them (`V`). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t).1
    | ⟨7, _⟩ => (outsAt2 V c t).2
  Φ _ := Pipeline.ΦA spec2 c
  q w := Pipeline.shareOf spec2 w
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t).1 := by dsimp only [dat2]
theorem after2_7 (c : Dev nD) (t : Fin cfg2.N) : (dat2 V c).after 7 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 800000 in
/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  rw [show (dat2 V c).leavesExact 6 t = owns (c : Thread nD τ) (ms2_6 t) fullShare ((dat2 V c).after 6 t) from by
      unfold Dat.leavesExact; rw [liveAt2_6 t], after2_6]
  rw [show (dat2 V c).leavesExact 7 t = owns (c : Thread nD τ) (ms2_7 t) fullShare ((dat2 V c).after 7 t) from by
      unfold Dat.leavesExact; rw [liveAt2_7_A t (hcond2_0 t) (hcond2_1 t)], after2_7]
  unfold outsAt2
  unfold out2_A_6 out2_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ (hcond2_0 t) (hcond2_1 t) (iblk2 V c 0 t) (iblk2 V c 1 t) (iblk2 V c 2 t) (iblk2 V c 3 t) (iblk2 V c 4 t) (iblk2 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_A_6 c _ _ _ _ _ _ _ _ _ _ _ _ _ _ _ _ _ _ _ _ _ _ _ _ _)
  unfold owns; iexists _; isplitr
  swap; · iexact H7
  ipureintro; exact View.read_writes_of_cover _ _ _ _ _ (cover2_A_7 c _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Whole

end
-- ==== Proof.KernelIdealRun.Region3.lean ====
/- `KernelIdeal`: region 3 of @main: its blocks, its body run and its proof data, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__conv_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof data whose array is `V`'s (`hA`) and whose body leaves the block in place (`hafter`). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof data whose array is `V`'s (`hA`) and whose body leaves the block in place (`hafter`). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := k3_cond1 i = 1#1
/-- It holds at every point — by arithmetic of the point. -/
theorem hcond3_0 : ∀ t : Fin cfg3.N, cond3_0 (grid3.coords t) :=
  (fun t => by
    have ht : t.val < 1 := Nat.lt_of_lt_of_eq t.isLt N_3
    have e0 : (grid3.coords t 0).val = t.val / 1 % 1 := Pipeline.Grid.coords_val t 0 (by decide) rfl
    simp only [cond3_0, k3_cond1, e0]
    word_cmp
   : ∀ t : Fin grid3.N, cond3_0 (grid3.coords t))

/-- The condition of the body's `scf.if` 1 (`k3_h2`), from the grid coordinates (the skeleton's scalar
    chain substituted). -/
abbrev cond3_1 (i : grid3.Coords) : Prop := k3_cond2 i = 1#1
/-- It holds at no point — by arithmetic of the point. -/
theorem hcond3_1 : ∀ t : Fin cfg3.N, ¬cond3_1 (grid3.coords t) :=
  (fun t => by
    have ht : t.val < 1 := Nat.lt_of_lt_of_eq t.isLt N_3
    have e0 : (grid3.coords t 0).val = t.val / 1 % 1 := Pipeline.Grid.coords_val t 0 (by decide) rfl
    simp only [cond3_1, k3_cond2, e0]
    word_cmp
   : ∀ t : Fin grid3.N, ¬cond3_1 (grid3.coords t))

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an input). -/
theorem liveAt3_5 : ∀ t : Fin cfg3.N, cfg3.idle 5 (grid3.coords t) = false := fun _ => rfl
/-- Window 6 is never idle (an output stored at every point, under no condition). -/
theorem liveAt3_6 : ∀ t : Fin cfg3.N, cfg3.idle 6 (grid3.coords t) = false := fun _ => rfl
/-- At the points of case A the printed configuration (`Cfg.idle`) calls output 7 live: the case stores into it. -/
theorem liveAt3_7_A : ∀ t : Fin cfg3.N, cond3_0 (grid3.coords t) → ¬cond3_1 (grid3.coords t) → cfg3.idle 7 (grid3.coords t) = false := by decide +kernel

/-! ## The kernel body on any staging memrefs: a subtype the run finds -/

/-- One staging buffer of output window 6, through which its contents are stated (`View.read_writes_of_cover`: the
    choice does not matter). -/
abbrev VO3_6 : View sig .tc .vmem S512x1x1x256 .bf16 := (Memref.whole cc3_stg6_0 : Memref sig .tc .vmem S512x1x1x256 .bf16).view
/-- One staging buffer of output window 7, through which its contents are stated (`View.read_writes_of_cover`: the
    choice does not matter). -/
abbrev VO3_7 : View sig .tc .vmem S2x256 .f32 := (Memref.whole cc3_stg7_0 : Memref sig .tc .vmem S2x256 .f32).view
/-- Each window's current staging memref at point `t`, spelled as the pipeline passes it (`bodyAt3`), and its wholeness. -/
abbrev ms3_0 (t : Fin cfg3.N) : Memref sig .tc .vmem S512x1x1x2x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1x1x2x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2x512x256 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x256 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S512x1x1x256 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S2x256 .f32 := win3_7.stage (cfg3.slots t 7)
abbrev hs3_7 (t : Fin cfg3.N) : (ms3_7 t).IsWhole := hstage3_7 ((cfg3.slots t 7).cast nbuf3_7)
set_option maxHeartbeats 1000000 in
/-- What the body's stores leave in each output's staging memref, as pieces (last first). -/
noncomputable def kernelRun3_A (c : Dev nD) (i : grid3.Coords) (arg1 : Memref sig .tc .vmem S512x1x1x2x256 .bf16) (harg1 : arg1.IsWhole) (arg2 : Memref sig .tc .vmem S512x1x1x2x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1x1x256 .bf16) (harg7 : arg7.IsWhole) (arg8 : Memref sig .tc .vmem S2x256 .f32) (harg8 : arg8.IsWhole) (hc0 : cond3_0 i) (hc1 : ¬cond3_1 i)
    (x0 : Vec F S512x1x1x2x256 .bf16) (x1 : Vec F S512x1x1x2x256 .bf16) (x2 : Vec F S2x512x256 .bf16) (x3 : Vec F S2x256 .f32) (x4 : Vec F S1x256 .f32) (x5 : Vec F S1x256 .f32) :
    Σ' (L6 : List (View.Piece (Elt F) S512x1x1x256 .bf16)), { L7 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3__conv_body i arg1 harg1 arg2 harg2 arg3 harg3 arg4 harg4 arg5 harg5 arg6 harg6 arg7 harg7 arg8 harg8) K } := by
  refine ⟨?_, ?_, fun E K => ?run⟩
  case run =>
    simp only [cc3__conv_body_eq_skeleton]; unfold cc3__conv_body_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block, so they cover it. -/
theorem cover3_A_6 (c : Dev nD) (i : grid3.Coords) (arg1 : Memref sig .tc .vmem S512x1x1x2x256 .bf16) (harg1 : arg1.IsWhole) (arg2 : Memref sig .tc .vmem S512x1x1x2x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1x1x256 .bf16) (harg7 : arg7.IsWhole) (arg8 : Memref sig .tc .vmem S2x256 .f32) (harg8 : arg8.IsWhole) (hc0 : cond3_0 i) (hc1 : ¬cond3_1 i)
    (x0 : Vec F S512x1x1x2x256 .bf16) (x1 : Vec F S512x1x1x2x256 .bf16) (x2 : Vec F S2x512x256 .bf16) (x3 : Vec F S2x256 .f32) (x4 : Vec F S1x256 .f32) (x5 : Vec F S1x256 .f32) (y : S512x1x1x256.Idx) :
    ∃ pc ∈ (kernelRun3_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun3_A c i arg1 harg1 arg2 harg2 arg3 harg3 arg4 harg4 arg5 harg5 arg6 harg6 arg7 harg7 arg8 harg8 hc0 hc1 x0 x1 x2 x3 x4 x5).1 S512x1x1x256.size (by sl_kernel_rfl) y

/-- What the run leaves in output 6's staging buffer: its pieces read back over junk. -/
def out3_A_6 (c : Dev nD) (i : grid3.Coords) (arg1 : Memref sig .tc .vmem S512x1x1x2x256 .bf16) (harg1 : arg1.IsWhole) (arg2 : Memref sig .tc .vmem S512x1x1x2x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1x1x256 .bf16) (harg7 : arg7.IsWhole) (arg8 : Memref sig .tc .vmem S2x256 .f32) (harg8 : arg8.IsWhole) (hc0 : cond3_0 i) (hc1 : ¬cond3_1 i)
    (x0 : Vec F S512x1x1x2x256 .bf16) (x1 : Vec F S512x1x1x2x256 .bf16) (x2 : Vec F S2x512x256 .bf16) (x3 : Vec F S2x256 .f32) (x4 : Vec F S1x256 .f32) (x5 : Vec F S1x256 .f32) : Vec F S512x1x1x256 .bf16 :=
  VO3_6.read (Elt F) (VO3_6.writes (Elt F) VO3_6.junk (kernelRun3_A c i arg1 harg1 arg2 harg2 arg3 harg3 arg4 harg4 arg5 harg5 arg6 harg6 arg7 harg7 arg8 harg8 hc0 hc1 x0 x1 x2 x3 x4 x5).1)

/-- The run's pieces for output 7 tile its block, so they cover it. -/
theorem cover3_A_7 (c : Dev nD) (i : grid3.Coords) (arg1 : Memref sig .tc .vmem S512x1x1x2x256 .bf16) (harg1 : arg1.IsWhole) (arg2 : Memref sig .tc .vmem S512x1x1x2x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1x1x256 .bf16) (harg7 : arg7.IsWhole) (arg8 : Memref sig .tc .vmem S2x256 .f32) (harg8 : arg8.IsWhole) (hc0 : cond3_0 i) (hc1 : ¬cond3_1 i)
    (x0 : Vec F S512x1x1x2x256 .bf16) (x1 : Vec F S512x1x1x2x256 .bf16) (x2 : Vec F S2x512x256 .bf16) (x3 : Vec F S2x256 .f32) (x4 : Vec F S1x256 .f32) (x5 : Vec F S1x256 .f32) (y : S2x256.Idx) :
    ∃ pc ∈ (kernelRun3_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun3_A c i arg1 harg1 arg2 harg2 arg3 harg3 arg4 harg4 arg5 harg5 arg6 harg6 arg7 harg7 arg8 harg8 hc0 hc1 x0 x1 x2 x3 x4 x5).2.1 S2x256.size (by sl_kernel_rfl) y

/-- What the run leaves in output 7's staging buffer: its pieces read back over junk. -/
def out3_A_7 (c : Dev nD) (i : grid3.Coords) (arg1 : Memref sig .tc .vmem S512x1x1x2x256 .bf16) (harg1 : arg1.IsWhole) (arg2 : Memref sig .tc .vmem S512x1x1x2x256 .bf16) (harg2 : arg2.IsWhole) (arg3 : Memref sig .tc .vmem S2x512x256 .bf16) (harg3 : arg3.IsWhole) (arg4 : Memref sig .tc .vmem S2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1x1x256 .bf16) (harg7 : arg7.IsWhole) (arg8 : Memref sig .tc .vmem S2x256 .f32) (harg8 : arg8.IsWhole) (hc0 : cond3_0 i) (hc1 : ¬cond3_1 i)
    (x0 : Vec F S512x1x1x2x256 .bf16) (x1 : Vec F S512x1x1x2x256 .bf16) (x2 : Vec F S2x512x256 .bf16) (x3 : Vec F S2x256 .f32) (x4 : Vec F S1x256 .f32) (x5 : Vec F S1x256 .f32) : Vec F S2x256 .f32 :=
  VO3_7.read (Elt F) (VO3_7.writes (Elt F) VO3_7.junk (kernelRun3_A c i arg1 harg1 arg2 harg2 arg3 harg3 arg4 harg4 arg5 harg5 arg6 harg6 arg7 harg7 arg8 harg8 hc0 hc1 x0 x1 x2 x3 x4 x5).2.1)

/-! ## What the outputs hold after each point -/

/-- What the outputs' staging buffers hold after the body at point `t` (as a tuple, in window order): the run's contents at
    the point's memrefs and input blocks. -/
def outsAt3 (c : Dev nD) (t : Fin cfg3.N) : Vec F S512x1x1x256 .bf16 × Vec F S2x256 .f32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (hcond3_0 t) (hcond3_1 t) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (hcond3_0 t) (hcond3_1 t) (iblk3 V c 0 t) (iblk3 V c 1 t) (iblk3 V c 2 t) (iblk3 V c 3 t) (iblk3 V c 4 t) (iblk3 V c 5 t))

/-! ## The pipeline's proof data -/

/-- The proof data of pipeline 3 on core `c`: the arrays as the region finds them (`V`). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t).1
    | ⟨7, _⟩ => (outsAt3 V c t).2
  Φ _ := Pipeline.ΦA spec3 c
  q w := Pipeline.shareOf spec3 w
  owed _ := 0

/-- The proof data's arrays are the region-entry contents. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t).1 := by dsimp only [dat3]
theorem after3_7 (c : Dev nD) (t : Fin cfg3.N) : (dat3 V c).after 7 t = (outsAt3 V c t).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 800000 in
/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  rw [show (dat3 V c).leavesExact 4 t = owns (c : Thread nD τ) (ms3_4 t) fullShare ((dat3 V c).after 4 t) from by
      unfold Dat.leavesExact; rw [liveAt3_4 t], after3_4]
  rw [show (dat3 V c).leavesExact 5 t = owns (c : Thread nD τ) (ms3_5 t) fullShare ((dat3 V c).after 5 t) from by
      unfold Dat.leavesExact; rw [liveAt3_5 t], after3_5]
  rw [show (dat3 V c).leavesExact 6 t = owns (c : Thread nD τ) (ms3_6 t) fullShare ((dat3 V c).after 6 t) from by
      unfold Dat.leavesExact; rw [liveAt3_6 t], after3_6]
  rw [show (dat3 V c).leavesExact 7 t = owns (c : Thread nD τ) (ms3_7 t) fullShare ((dat3 V c).after 7 t) from by
      unfold Dat.leavesExact; rw [liveAt3_7_A t (hcond3_0 t) (hcond3_1 t)], after3_7]
  unfold outsAt3
  unfold out3_A_6 out3_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun3_A c (grid3.coords t) _ _ _ _ _ _ _ _ _ _ _ _ _ _ _ _ (hcond3_0 t) (hcond3_1 t) (iblk3 V c 0 t) (iblk3 V c 1 t) (iblk3 V c 2 t) (iblk3 V c 3 t) (iblk3 V c 4 t) (iblk3 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover3_A_6 c _ _ _ _ _ _ _ _ _ _ _ _ _ _ _ _ _ _ _ _ _ _ _ _ _)
  unfold owns; iexists _; isplitr
  swap; · iexact H7
  ipureintro; exact View.read_writes_of_cover _ _ _ _ _ (cover3_A_7 c _ _ _ _ _ _ _ _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Whole

end
-- ==== Proof.KernelIdealRun.Region4.lean ====
/- `KernelIdeal`: region 4 of @main: its blocks, its body run and its proof data, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__head_body` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof data whose array is `V`'s (`hA`) and whose body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof data whose array is `V`'s (`hA`) and whose body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof data whose array is `V`'s (`hA`) and whose body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof data whose array is `V`'s (`hA`) and whose body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof data whose array is `V`'s (`hA`) and whose body leaves the block in place (`hafter`). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for ANY proof data whose array is `V`'s (`hA`) and whose body leaves the block in place (`hafter`). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for ANY proof data whose array is `V`'s (`hA`) and whose body leaves the block in place (`hafter`). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for ANY proof data whose array is `V`'s (`hA`) and whose body leaves the block in place (`hafter`). -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not, for ANY proof data whose array is `V`'s (`hA`) and whose body leaves the block in place (`hafter`). -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not, for ANY proof data whose array is `V`'s (`hA`) and whose body leaves the block in place (`hafter`). -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2x256 := Rect.unit (s := S2x256) ![0, 0] S1x256.size inb_S2x256_S1x256_0_0
abbrev r4_1 : Rect S2x256 := Rect.unit (s := S2x256) ![1, 0] S1x256.size inb_S2x256_S1x256_1_0
abbrev r4_2 : Rect S1x256 := Rect.unit (s := S1x256) ![0, 0] S1x256.size inb_S1x256_S1x256_0_0
abbrev r4_3 : Rect S512x256 := Rect.unit (s := S512x256) ![0, 0] S512x256.size inb_S512x256_S512x256_0_0
abbrev r4_4 : Rect S256x256 := Rect.unit (s := S256x256) ![0, 0] S256x256.size inb_S256x256_S256x256_0_0
abbrev r4_5 : Rect S256x512 := Rect.unit (s := S256x512) ![0, 0] S256x512.size inb_S256x512_S256x512_0_0
abbrev r4_6 : Rect S256x14 := Rect.unit (s := S256x14) ![0, 0] S256x14.size inb_S256x14_S256x14_0_0
abbrev r4_7 : Rect S8x256 := Rect.unit (s := S8x256) ![0, 0] S8x256.size inb_S8x256_S8x256_0_0
abbrev r4_8 : Rect S8x14 := Rect.unit (s := S8x14) ![0, 0] S8x14.size inb_S8x14_S8x14_0_0
abbrev r4_9 : Rect S1x14 := Rect.unit (s := S1x14) ![0, 0] S1x14.size inb_S1x14_S1x14_0_0

/-! ## What the body leaves in each output window's buffer -/

/-! ### Values of the body that the stores' payloads, spelt out, would write more than once

    Each is a vector the body binds (often a part call's result), stated over the input windows' blocks and
    numbered on from the skeleton's payload functions (`k4_pay13` …, after `k4_pay12`), so that
    `out4_W` and the values after it name it instead of spelling it out; the comment after each is the printed function's
    name for the value (a count appended where that name is bound again). -/

def k4_pay13 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : FVec F S256x256 .f32 :=
  constant S256x256 .f32 0x00000000#32 -- `cst_18`
def k4_pay14 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : FVec F S512x256 .f32 :=
  k4_pay3 (View.ld x1 r4_0) (View.ld x1 r4_1) (View.ld x2 r4_2) (View.ld x3 r4_2) (View.ld x0 r4_3) (View.ld x4 r4_4) (View.ld x5 r4_2) -- `v35`
def k4_pay15 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : FVec F S256x512 .f32 :=
  k4_pay4 (View.ld x6 r4_5) -- `v37`
def k4_pay16 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : IVec S8x14 32 :=
  iota .tc S8x14 32 [1] iota_S8x14_d1_w32 -- `v55`
def k4_pay17 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : IVec S8x1 32 :=
  k4_pay7 (k4_pay14 x0 x1 x2 x3 x4 x5 x6 x7 x8 x9) (k4_pay15 x0 x1 x2 x3 x4 x5 x6 x7 x8 x9) (k4_pay13 x0 x1 x2 x3 x4 x5 x6 x7 x8 x9) (View.ld x7 r4_5) (View.ld x8 r4_6) (View.ld x9 r4_7) -- `v63`
def k4_pay18 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : IVec S8x1 32 :=
  k4_pay10 (k4_pay14 x0 x1 x2 x3 x4 x5 x6 x7 x8 x9) (k4_pay15 x0 x1 x2 x3 x4 x5 x6 x7 x8 x9) (k4_pay13 x0 x1 x2 x3 x4 x5 x6 x7 x8 x9) (View.ld x7 r4_5) (View.ld x8 r4_6) (View.ld x9 r4_7) -- `v75`
def k4_pay19 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : FVec F S8x1 .f32 :=
  k4_pay11 (k4_pay14 x0 x1 x2 x3 x4 x5 x6 x7 x8 x9) (k4_pay15 x0 x1 x2 x3 x4 x5 x6 x7 x8 x9) (k4_pay13 x0 x1 x2 x3 x4 x5 x6 x7 x8 x9) (View.ld x7 r4_5) (View.ld x8 r4_6) (View.ld x9 r4_7) -- `v77`
def k4_pay20 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : FVec F S8x1 .f32 :=
  k4_pay12 (k4_pay14 x0 x1 x2 x3 x4 x5 x6 x7 x8 x9) (k4_pay15 x0 x1 x2 x3 x4 x5 x6 x7 x8 x9) (k4_pay13 x0 x1 x2 x3 x4 x5 x6 x7 x8 x9) (View.ld x7 r4_5) (View.ld x8 r4_6) (View.ld x9 r4_7) -- `v79`

/-- Window 10's staging buffer after the body, from the input windows' blocks: its 1 store as pieces, LAST
    FIRST. -/
def out4_10 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : Vec F S8x14 .f32 :=
  View.canon [⟨r4_8, k4_pay1 (k4_pay16 x0 x1 x2 x3 x4 x5 x6 x7 x8 x9) (k4_pay17 x0 x1 x2 x3 x4 x5 x6 x7 x8 x9) (k4_pay18 x0 x1 x2 x3 x4 x5 x6 x7 x8 x9) (k4_pay19 x0 x1 x2 x3 x4 x5 x6 x7 x8 x9) (k4_pay20 x0 x1 x2 x3 x4 x5 x6 x7 x8 x9)⟩]

/-- Its stores tile the buffer (checked by evaluation), so they cover it. -/
theorem cover4_10 (p0 : Vec F S8x14 .f32) (y : S8x14.Idx) :
    ∃ pc ∈ ([⟨r4_8, p0⟩] : List (View.Piece (Elt F) S8x14 .f32)), y ∈ pc.1.set :=
  View.cover_of_tiled [⟨r4_8, p0⟩] S8x14.size (by rfl) y

/-- Window 11's staging buffer after the body, from the input windows' blocks: its 1 store as pieces, LAST
    FIRST. -/
def out4_11 (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) : Vec F S1x14 .i32 :=
  View.canon [⟨r4_9, k4_pay2 (k4_pay16 x0 x1 x2 x3 x4 x5 x6 x7 x8 x9) (k4_pay17 x0 x1 x2 x3 x4 x5 x6 x7 x8 x9) (k4_pay18 x0 x1 x2 x3 x4 x5 x6 x7 x8 x9) (k4_pay19 x0 x1 x2 x3 x4 x5 x6 x7 x8 x9) (k4_pay20 x0 x1 x2 x3 x4 x5 x6 x7 x8 x9)⟩]

/-- Its stores tile the buffer (checked by evaluation), so they cover it. -/
theorem cover4_11 (p0 : Vec F S1x14 .i32) (y : S1x14.Idx) :
    ∃ pc ∈ ([⟨r4_9, p0⟩] : List (View.Piece (Elt F) S1x14 .i32)), y ∈ pc.1.set :=
  View.cover_of_tiled [⟨r4_9, p0⟩] S1x14.size (by rfl) y

/-! ## The body's triple -/

set_option maxHeartbeats 1000000 in
/-- The kernel body on whole staging memrefs, the inputs' at read contents `xW` and the outputs' at anything, runs to the continuation holding the inputs' as they were and each output's at `out4_W` of the inputs'. -/
theorem sound_kernel4 (c : Dev nD) (E : Set ℕ) (arg0 : Memref sig .tc .vmem S512x256 .bf16) (harg0 : arg0.IsWhole) (arg1 : Memref sig .tc .vmem S2x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x14 .f32) (harg8 : arg8.IsWhole) (arg9 : Memref sig .tc .vmem S8x256 .f32) (harg9 : arg9.IsWhole) (arg10 : Memref sig .tc .vmem S8x14 .f32) (harg10 : arg10.IsWhole) (arg11 : Memref sig .tc .vmem S1x14 .i32) (harg11 : arg11.IsWhole)
    (x0 : Vec F S512x256 .bf16) (x1 : Vec F S2x256 .f32) (x2 : Vec F S1x256 .f32) (x3 : Vec F S1x256 .f32) (x4 : Vec F S256x256 .f32) (x5 : Vec F S1x256 .f32) (x6 : Vec F S256x512 .f32) (x7 : Vec F S256x512 .f32) (x8 : Vec F S256x14 .f32) (x9 : Vec F S8x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out4_10 x0 x1 x2 x3 x4 x5 x6 x7 x8 x9) ∗ owns (c : Thread nD τ) arg11 fullShare (out4_11 x0 x1 x2 x3 x4 x5 x6 x7 x8 x9)) -∗ K ⟨⟩))
      ⊢ wp frame (wpE (defs₀ (F := F)) Variants.none c none) E (cc4__head_body arg0 harg0 arg1 harg1 arg2 harg2 arg3 harg3 arg4 harg4 arg5 harg5 arg6 harg6 arg7 harg7 arg8 harg8 arg9 harg9 arg10 harg10 arg11 harg11) K := by
  simp only [cc4__head_body_eq_skeleton]; unfold cc4__head_body_skel
  simp only [k4_part1_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover4_10 _)).trans ?_
    rfl
  iexists _; isplitr
  swap; · iexact H11
  ipureintro
  refine (View.read_writes_eq_canon _ _ _ (cover4_11 _)).trans ?_
  rfl

/-! ## The pipeline's proof data -/

/-- The proof data of pipeline 4 on core `c`: the arrays as the region finds them (`V`). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Whole

end
-- ==== Proof.KernelIdealRun.Hosts0.lean ====
/- `KernelIdeal`: what the host stretches of @main write. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_v0, main_v1, main_v2, main_v3, main_v4, main_v5, main_v6, main_v7, main_v8, main_v9, main_v10, main_v11, main_v12, main_v13, main_v14, main_v15, main_v16, main_v17, main_v18, main_v19, main_cst_2, main_v20, main_cst_3, main_v21, main_cst_4, main_v22, main_v23, main_v24]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v26, main_v27, main_v28, main_v29, main_v30, main_v31, main_v32]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v34, main_v35, main_v36, main_v37, main_v38, main_v39, main_v40]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v42, main_v43, main_v44, main_v45, main_v46, main_v47, main_v48]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v50, main_v51, main_v52, main_v53, main_v54, main_v55, main_v56, main_v57, main_v58, main_v59, main_cst_5, main_v60, main_v61, main_v62, main_v63, main_v64, main_v65, main_cst_6, main_v66, main_v67, main_v68, main_v69, main_v70, main_v71, main_v72, main_v73, main_v74, main_v75, main_v76, main_v77, main_v78, main_v79, main_v80]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v82]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

end Cert.KernelIdeal.Whole

end
-- ==== Proof.KernelIdealRun.Fold0.lean ====
/- `KernelIdeal`: the contents of every buffer at each boundary of @main. -/
module

public import proofs.«01_k».proof.Proof.KernelIdealRun.Region0
public import proofs.«01_k».proof.Proof.KernelIdealRun.Region1
public import proofs.«01_k».proof.Proof.KernelIdealRun.Region2
public import proofs.«01_k».proof.Proof.KernelIdealRun.Region3
public import proofs.«01_k».proof.Proof.KernelIdealRun.Region4
public import proofs.«01_k».proof.Proof.KernelIdealRun.Hosts0

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact (dat3 (V7 m ρ) c).withArrays_arrAt launch₀3.sharedIn _ (A_eq3 (V7 m ρ) c) w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`. -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)
theorem W11_main_arg5 (c : Dev nD) : W11 m ρ c (Proc.devRef .tc main_arg5) = m ((c : Thread nD τ).loc main_arg5) :=
  W11_args m ρ c main_arg5 (by decide)
theorem W11_main_arg6 (c : Dev nD) : W11 m ρ c (Proc.devRef .tc main_arg6) = m ((c : Thread nD τ).loc main_arg6) :=
  W11_args m ρ c main_arg6 (by decide)
theorem W11_main_arg7 (c : Dev nD) : W11 m ρ c (Proc.devRef .tc main_arg7) = m ((c : Thread nD τ).loc main_arg7) :=
  W11_args m ρ c main_arg7 (by decide)
theorem W11_main_arg8 (c : Dev nD) : W11 m ρ c (Proc.devRef .tc main_arg8) = m ((c : Thread nD τ).loc main_arg8) :=
  W11_args m ρ c main_arg8 (by decide)
theorem W11_main_arg9 (c : Dev nD) : W11 m ρ c (Proc.devRef .tc main_arg9) = m ((c : Thread nD τ).loc main_arg9) :=
  W11_args m ρ c main_arg9 (by decide)
end Cert.KernelIdeal.Whole

end
-- ==== Proof.KernelIdealRun.State.lean ====
/- `KernelIdeal`: the proof data of all regions and the state between segments. -/
module

public import proofs.«01_k».proof.Proof.KernelIdealRun.Fold0

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along (its `post` is then those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W11 m ρ c) ∗ ∃ r, prngReg c r)

end Cert.KernelIdeal.Whole

end
-- ==== Proof.KernelIdealRun.Record0.lean ====
/- `KernelIdeal`: the segment record of region 0. -/
module

public import proofs.«01_k».proof.Proof.KernelIdealRun.State

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2` (what the next segment is entered from). -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealRun.Record1.lean ====
/- `KernelIdeal`: the segment record of region 1. -/
module

public import proofs.«01_k».proof.Proof.KernelIdealRun.State

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4` (what the next segment is entered from). -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealRun.Record2.lean ====
/- `KernelIdeal`: the segment record of region 2. -/
module

public import proofs.«01_k».proof.Proof.KernelIdealRun.State

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6` (what the next segment is entered from). -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealRun.Record3.lean ====
/- `KernelIdeal`: the segment record of region 3. -/
module

public import proofs.«01_k».proof.Proof.KernelIdealRun.State

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8` (what the next segment is entered from). -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealRun.Record4.lean ====
/- `KernelIdeal`: the segment record of region 4. -/
module

public import proofs.«01_k».proof.Proof.KernelIdealRun.State

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10` (what the next segment is entered from). -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealRun.Frame.lean ====
/- `KernelIdeal`: the launch of the whole program. -/
module

public import proofs.«01_k».proof.Proof.KernelIdealRun.Record0
public import proofs.«01_k».proof.Proof.KernelIdealRun.Record1
public import proofs.«01_k».proof.Proof.KernelIdealRun.Record2
public import proofs.«01_k».proof.Proof.KernelIdealRun.Record3
public import proofs.«01_k».proof.Proof.KernelIdealRun.Record4

@[expose] public section

-- the long axes recurse once per coordinate
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with the counters at zero, every run ends with each buffer at its contents after the last stretch
    and the counters back at zero. -/
theorem run_all : θ_run defs (onTc (τ := τ) (main (F := F))) ⟨m, fun _ => 0, ρ⟩ (fun r => (∀ c : Dev nD, ∀ b ∈ Pipeline.ucRefs τ sig,
      r.2.mem ((c : Thread nD τ).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
   ⟨(h.1 c _ (mem_uc main_arg0 (by decide))).trans (W11_main_arg0 m ρ c),
   (h.1 c _ (mem_uc main_arg1 (by decide))).trans (W11_main_arg1 m ρ c),
   (h.1 c _ (mem_uc main_arg2 (by decide))).trans (W11_main_arg2 m ρ c),
   (h.1 c _ (mem_uc main_arg3 (by decide))).trans (W11_main_arg3 m ρ c),
   (h.1 c _ (mem_uc main_arg4 (by decide))).trans (W11_main_arg4 m ρ c),
   (h.1 c _ (mem_uc main_arg5 (by decide))).trans (W11_main_arg5 m ρ c),
   (h.1 c _ (mem_uc main_arg6 (by decide))).trans (W11_main_arg6 m ρ c),
   (h.1 c _ (mem_uc main_arg7 (by decide))).trans (W11_main_arg7 m ρ c),
   (h.1 c _ (mem_uc main_arg8 (by decide))).trans (W11_main_arg8 m ρ c),
   (h.1 c _ (mem_uc main_arg9 (by decide))).trans (W11_main_arg9 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.KernelIdeal.Whole

end
-- ==== Proof.Value.Real.lean ====
/-
  Arithmetic of the extended reals at real arguments, and batch normalisation over the reals: the mean of squared
  differences is the mean of squares less the square of the mean, a constant added to every entry cancels, and the
  normalised entry is one multiplication and one addition.
-/
module

public import Idealize.ShloMosaic.PureOps.Ideal
public import Idealize.ShloMosaic.Lib.Pointwise
public import Idealize.ShloMosaic.Lib.Pipeline.ValueKit.Acc

@[expose] public section

noncomputable section

namespace Cert.Value

open Idealize.ShloMosaic

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem div_coe {x y : ℝ} (h : y ≠ 0) : Ideal.div (x : EReal) (y : EReal) = ((x / y : ℝ) : EReal) := by
  unfold Ideal.div
  rw [if_neg (by simpa using h), div_eq_mul_inv, EReal.coe_mul, EReal.coe_inv]

theorem sqrt_coe {x : ℝ} (h : 0 ≤ x) : Ideal.sqrt (x : EReal) = ((√x : ℝ) : EReal) := by
  show (if x < 0 then _ else _) = _
  rw [if_neg (not_lt.mpr h)]

theorem rsqrt_coe {x : ℝ} (h : 0 < x) : Ideal.rsqrt (x : EReal) = (((√x)⁻¹ : ℝ) : EReal) := by
  show (if x < 0 then _ else if x = 0 then _ else _) = _
  rw [if_neg (not_lt.mpr h.le), if_neg h.ne']

theorem exp_coe (x : ℝ) : Ideal.exp (x : EReal) = ((Real.exp x : ℝ) : EReal) := rfl

/-- A positive normal word of 32 bits reads as its significand times its power of two. -/
theorem word_coe (b : BitVec 32) (ex fr : ℕ) (h0 : b.extractLsb' 31 1 = 0#1) (h1 : (b.extractLsb' 23 8).toNat = ex)
    (h2 : (b.extractLsb' 0 23).toNat = fr) (h3 : ex ≠ 255) (h4 : ex ≠ 0) :
    Ideal.ofBits .f32 b = ((((2 ^ 23 + fr : ℕ) : ℝ) * (2 : ℝ) ^ ((ex : ℤ) - 127 - 23) : ℝ) : EReal) := by
  show Ideal.ieee 8 23 b = _
  unfold Ideal.ieee
  simp only [Nat.reduceAdd, h0, h1, h2]
  rw [if_neg (by simpa using h3), if_neg h4]
  norm_num

/-- The small number added to a variance, as the word of it reads. -/
def eps : ℝ := 10995116 * (2 : ℝ) ^ (-40 : ℤ)

theorem eps_pos : 0 < eps := by unfold eps; positivity

theorem eps_word : Ideal.ofBits .f32 0x3727C5AC#32 = ((eps : ℝ) : EReal) := by
  rw [word_coe _ 110 2606508 (by decide) (by decide) (by decide) (by decide) (by decide)]
  unfold eps
  norm_num

theorem word_32768 : Ideal.ofBits .f32 0x47000000#32 = ((32768 : ℝ) : EReal) := by
  rw [word_coe _ 142 0 (by decide) (by decide) (by decide) (by decide) (by decide)]; norm_num

theorem word_8192 : Ideal.ofBits .f32 0x46000000#32 = ((8192 : ℝ) : EReal) := by
  rw [word_coe _ 140 0 (by decide) (by decide) (by decide) (by decide) (by decide)]; norm_num

theorem word_2048 : Ideal.ofBits .f32 0x45000000#32 = ((2048 : ℝ) : EReal) := by
  rw [word_coe _ 138 0 (by decide) (by decide) (by decide) (by decide) (by decide)]; norm_num

theorem word_512 : Ideal.ofBits .f32 0x44000000#32 = ((512 : ℝ) : EReal) := by
  rw [word_coe _ 136 0 (by decide) (by decide) (by decide) (by decide) (by decide)]; norm_num

theorem word_256 : Ideal.ofBits .f32 0x43800000#32 = ((256 : ℝ) : EReal) := by
  rw [word_coe _ 135 0 (by decide) (by decide) (by decide) (by decide) (by decide)]; norm_num

theorem word_256th : Ideal.ofBits .f32 0x3B800000#32 = ((1 / 256 : ℝ) : EReal) := by
  rw [word_coe _ 119 0 (by decide) (by decide) (by decide) (by decide) (by decide)]; norm_num

/-! ## Averages -/

variable {ι : Type*} [Fintype ι]

/-- The mean of squared differences is the mean of squares less the square of the mean. -/
theorem mean_sq_sub (f : ι → ℝ) (N : ℝ) (hN : N = Fintype.card ι) (h0 : N ≠ 0) :
    (∑ i, (f i - (∑ i, f i) / N) ^ 2) / N = (∑ i, f i * f i) / N - (∑ i, f i) / N * ((∑ i, f i) / N) := by
  have h : ∀ i, (f i - (∑ i, f i) / N) ^ 2 = f i * f i - 2 * ((∑ i, f i) / N) * f i + ((∑ i, f i) / N) ^ 2 := fun i => by ring
  simp only [h]
  rw [Finset.sum_add_distrib, Finset.sum_sub_distrib, ← Finset.mul_sum, Finset.sum_const, Finset.card_univ, nsmul_eq_mul, ← hN]
  field_simp
  ring

/-- A constant added to every entry is added to the mean. -/
theorem mean_add_const (f : ι → ℝ) (N k : ℝ) (hN : N = Fintype.card ι) (h0 : N ≠ 0) :
    (∑ i, (f i + k)) / N = (∑ i, f i) / N + k := by
  rw [Finset.sum_add_distrib, Finset.sum_const, Finset.card_univ, nsmul_eq_mul, ← hN]
  field_simp

/-! ## A stage: a convolution by a 2 × 2 window without overlap, then normalisation and the positive part

An activation is a function of (image, row, column, channel); the indices are natural numbers, and only those inside the
stage's extents are ever read. -/

/-- An activation: image, row, column, channel. -/
abbrev Act := ℕ → ℕ → ℕ → ℕ → ℝ

/-- The convolution by a 2 × 2 window at stride 2. -/
def conv (h w : Act) : Act := fun n i j o =>
  ∑ di : Fin 2, ∑ dj : Fin 2, ∑ c : Fin 256, h n (2 * i + di) (2 * j + dj) c * w o c di dj

/-- The sum over the images and the `s × s` places. -/
def total (s : ℕ) (a : Act) (o : ℕ) : ℝ := ∑ n : Fin 512, ∑ i : Fin s, ∑ j : Fin s, a n i j o

/-- How many places there are. -/
def count (s : ℕ) : ℝ := 512 * s * s

def mean (s : ℕ) (a : Act) (o : ℕ) : ℝ := total s a o / count s

def var (s : ℕ) (a : Act) (o : ℕ) : ℝ := total s (fun n i j o => (a n i j o - mean s a o) ^ 2) o / count s

/-- The normalised activation, scaled, shifted, its positive part. -/
def norm (s : ℕ) (g b : ℕ → ℝ) (a : Act) : Act := fun n i j o =>
  max (g o * (a n i j o - mean s a o) / √(var s a o + eps) + b o) 0

theorem total_eq (s : ℕ) (a : Act) (o : ℕ) : total s a o = ∑ p : Fin 512 × Fin s × Fin s, a p.1 p.2.1 p.2.2 o := by
  unfold total
  rw [Fintype.sum_prod_type]
  exact Finset.sum_congr rfl fun n _ => by rw [Fintype.sum_prod_type]

theorem count_eq (s : ℕ) : count s = Fintype.card (Fin 512 × Fin s × Fin s) := by
  simp [count, Fintype.card_prod, Fintype.card_fin, mul_assoc]

theorem count_pos {s : ℕ} (hs : 0 < s) : 0 < count s := by
  unfold count; have : (0 : ℝ) < s := Nat.cast_pos.mpr hs; positivity

theorem var_nonneg {s : ℕ} (hs : 0 < s) (a : Act) (o : ℕ) : 0 ≤ var s a o := by
  unfold var
  rw [total_eq]
  exact div_nonneg (Finset.sum_nonneg fun _ _ => sq_nonneg _) (count_pos hs).le

/-- The variance from the two running sums. -/
theorem var_eq {s : ℕ} (hs : 0 < s) (a : Act) (o : ℕ) :
    var s a o = total s (fun n i j o => a n i j o * a n i j o) o / count s - mean s a o * mean s a o := by
  unfold var mean
  rw [total_eq, total_eq, total_eq]
  exact mean_sq_sub (fun p : Fin 512 × Fin s × Fin s => a p.1 p.2.1 p.2.2 o) (count s) (count_eq s) (count_pos hs).ne'

theorem mean_add {s : ℕ} (hs : 0 < s) (a : Act) (k : ℕ → ℝ) (o : ℕ) :
    mean s (fun n i j o => a n i j o + k o) o = mean s a o + k o := by
  unfold mean
  rw [total_eq, total_eq]
  exact mean_add_const (fun p : Fin 512 × Fin s × Fin s => a p.1 p.2.1 p.2.2 o) (count s) (k o) (count_eq s) (count_pos hs).ne'

/-- A constant added to a channel before normalisation cancels. -/
theorem norm_add {s : ℕ} (hs : 0 < s) (g b : ℕ → ℝ) (a : Act) (k : ℕ → ℝ) :
    norm s g b (fun n i j o => a n i j o + k o) = norm s g b a := by
  funext n i j o
  have hv : var s (fun n i j o => a n i j o + k o) o = var s a o := by
    unfold var total
    simp only [mean_add hs a k, add_sub_add_right_eq_sub]
  unfold norm
  rw [hv, mean_add hs a k, add_sub_add_right_eq_sub]

/-- The scale and the shift that stand for the normalisation of a channel. -/
def scale (s : ℕ) (g : ℕ → ℝ) (a : Act) (o : ℕ) : ℝ := g o * (√(var s a o + eps))⁻¹
def shift (s : ℕ) (g b : ℕ → ℝ) (a : Act) (o : ℕ) : ℝ := b o - mean s a o * scale s g a o

theorem norm_affine (s : ℕ) (g b : ℕ → ℝ) (a : Act) (n i j o : ℕ) :
    norm s g b a n i j o = max (a n i j o * scale s g a o + shift s g b a o) 0 := by
  unfold norm shift scale
  congr 1
  rw [div_eq_mul_inv]
  ring

/-! ## The same over the extended reals, as the kernel and the reference compute it -/

/-- The sum over the first `N` images: what a block of `N` images adds to the running sums. -/
def part (N s : ℕ) (a : Act) (o : ℕ) : ℝ := ∑ n : Fin N, ∑ i : Fin s, ∑ j : Fin s, a n i j o

theorem total_eq_part (s : ℕ) (a : Act) (o : ℕ) : total s a o = part 512 s a o := rfl

/-- The rows of a block of `N` images, one row per place, are its places. -/
theorem rows_coe {M : ℕ} (N s : ℕ) (hM : M = N * s * s) (a : Act) (o : ℕ) (F : Fin M → EReal)
    (hF : ∀ r, F r = ((a (r / s / s) (r / s % s) (r % s) o : ℝ) : EReal)) :
    ∑ r, F r = ((part N s a o : ℝ) : EReal) := by
  subst hM
  simp only [hF]
  rw [← coe_sum, Fin.sum_univ_mul_divmod (N * s) s fun q j => a (q / s) (q % s) j o,
    Fin.sum_univ_mul_divmod N s fun n i => ∑ j : Fin s, a n i j o]
  rfl

/-- A channel's blocks of `N` images, `T` of them, are its images. -/
theorem part_blocks (T N s : ℕ) (a : Act) (o : ℕ) :
    ∑ t : Fin T, part N s (fun n => a (t * N + n)) o = part (T * N) s a o := by
  unfold part
  exact Fin.sum_univ_univ_mul_add T N fun n => ∑ i : Fin s, ∑ j : Fin s, a n i j o

theorem total_blocks_coe (T N s : ℕ) (hT : T * N = 512) (a : Act) (o : ℕ) :
    ((total s a o : ℝ) : EReal) = ∑ t : Fin T, ((part N s (fun n => a (t * N + n)) o : ℝ) : EReal) := by
  rw [← coe_sum, part_blocks, hT, total_eq_part]

/-- One product of the rows of two neighbouring columns with the two columns of the window's row `di`. -/
theorem dot_coe (h w : Act) (n i j o di : ℕ) (X W : Fin 512 → EReal)
    (hX : ∀ x, X x = ((h n (2 * i + di) (j * 2 + x / 256) (x % 256) : ℝ) : EReal))
    (hW : ∀ x, W x = ((w o (x % 256) di (x / 256) : ℝ) : EReal)) :
    ∑ x, X x * W x
      = ((∑ dj : Fin 2, ∑ c : Fin 256, h n (2 * i + di) (2 * j + dj) c * w o c di dj : ℝ) : EReal) := by
  simp only [hX, hW, ← EReal.coe_mul, mul_comm j 2]
  rw [← coe_sum, ← Fin.sum_univ_mul_divmod 2 256 fun dj c => h n (2 * i + di) (2 * j + dj) c * w o c di dj]

/-- The two products make the convolution. -/
theorem conv_coe (h w : Act) (n i j o : ℕ) (X W X' W' : Fin 512 → EReal)
    (hX : ∀ x, X x = ((h n (2 * i) (j * 2 + x / 256) (x % 256) : ℝ) : EReal))
    (hW : ∀ x, W x = ((w o (x % 256) 0 (x / 256) : ℝ) : EReal))
    (hX' : ∀ x, X' x = ((h n (2 * i + 1) (j * 2 + x / 256) (x % 256) : ℝ) : EReal))
    (hW' : ∀ x, W' x = ((w o (x % 256) 1 (x / 256) : ℝ) : EReal)) :
    ∑ x, X x * W x + ∑ x, X' x * W' x = ((conv h w n i j o : ℝ) : EReal) := by
  rw [dot_coe h w n i j o 0 X W hX hW, dot_coe h w n i j o 1 X' W' hX' hW', ← EReal.coe_add]
  exact congrArg _ (Fin.sum_univ_two fun di : Fin 2 =>
    ∑ dj : Fin 2, ∑ c : Fin 256, h n (2 * i + di) (2 * j + dj) c * w o c di dj).symm

section Affine
variable {s : ℕ} (hs : 0 < s) (g b : ℕ → ℝ) (a : Act) (o : ℕ) {S Q G B C : EReal}
  (hS : S = ((total s a o : ℝ) : EReal)) (hQ : Q = ((total s (fun n i j o => a n i j o * a n i j o) o : ℝ) : EReal))
  (hG : G = ((g o : ℝ) : EReal)) (hB : B = ((b o : ℝ) : EReal)) (hC : C = ((count s : ℝ) : EReal))
include hs hS hQ hG hC

/-- The scale, from the two running sums. -/
theorem scale_coe :
    G * Ideal.rsqrt (Ideal.div Q C - Ideal.div S C * Ideal.div S C + Ideal.ofBits .f32 0x3727C5AC#32)
      = ((scale s g a o : ℝ) : EReal) := by
  have hc := (count_pos hs).ne'
  rw [hS, hQ, hG, hC, eps_word, div_coe hc, div_coe hc, ← EReal.coe_mul, ← EReal.coe_sub, ← EReal.coe_add]
  have hv : total s (fun n i j o => a n i j o * a n i j o) o / count s - total s a o / count s * (total s a o / count s)
      = var s a o := (var_eq hs a o).symm
  rw [hv, rsqrt_coe (add_pos_of_nonneg_of_pos (var_nonneg hs a o) eps_pos), ← EReal.coe_mul]
  rfl

include hB
/-- The shift, from the two running sums. -/
theorem shift_coe :
    B - Ideal.div S C
        * (G * Ideal.rsqrt (Ideal.div Q C - Ideal.div S C * Ideal.div S C + Ideal.ofBits .f32 0x3727C5AC#32))
      = ((shift s g b a o : ℝ) : EReal) := by
  rw [scale_coe hs g a o hS hQ hG hC, hS, hB, hC, div_coe (count_pos hs).ne', ← EReal.coe_mul, ← EReal.coe_sub]
  rfl

end Affine

/-- The positive part of a scaled and shifted entry. -/
theorem relu_coe (x y z : ℝ) : max ((x : EReal) * (y : EReal) + (z : EReal)) 0 = ((max (x * y + z) 0 : ℝ) : EReal) := by
  rw [coe_max, EReal.coe_add, EReal.coe_mul, EReal.coe_zero]

/-! ## The reference's form of a layer -/

/-- One of the four products of a window: the entries at the offset `(di, dj)` with their weights. -/
theorem corner_coe (h w : Act) (n i j o di dj : ℕ) (X W : Fin 256 → EReal) (hX : ∀ c, X c = ((h n (2 * i + di) (2 * j + dj) c : ℝ) : EReal))
    (hW : ∀ c, W c = ((w o c di dj : ℝ) : EReal)) :
    ∑ c, X c * W c = ((∑ c : Fin 256, h n (2 * i + di) (2 * j + dj) c * w o c di dj : ℝ) : EReal) := by
  simp only [hX, hW, ← EReal.coe_mul, coe_sum]

/-- The four products and the bias. -/
theorem corners_coe (h w : Act) (n i j o : ℕ) {A B C D E : EReal} {cb : ℕ → ℝ}
    (hA : A = ((∑ c : Fin 256, h n (2 * i + 0) (2 * j + 0) c * w o c 0 0 : ℝ) : EReal))
    (hB : B = ((∑ c : Fin 256, h n (2 * i + 0) (2 * j + 1) c * w o c 0 1 : ℝ) : EReal))
    (hC : C = ((∑ c : Fin 256, h n (2 * i + 1) (2 * j + 0) c * w o c 1 0 : ℝ) : EReal))
    (hD : D = ((∑ c : Fin 256, h n (2 * i + 1) (2 * j + 1) c * w o c 1 1 : ℝ) : EReal))
    (hE : E = ((cb o : ℝ) : EReal)) :
    A + B + C + D + E = ((conv h w n i j o + cb o : ℝ) : EReal) := by
  rw [hA, hB, hC, hD, hE]
  simp only [← EReal.coe_add]
  unfold conv
  simp only [Fin.sum_univ_two, Fin.val_zero, Fin.val_one]
  congr 1
  ring

/-- A sum of entries over all places. -/
theorem total_coe (s : ℕ) (a : Act) (o : ℕ) (F : Fin 512 → Fin s → Fin s → EReal) (hF : ∀ n i j, F n i j = ((a n i j o : ℝ) : EReal)) :
    ∑ n, ∑ i, ∑ j, F n i j = ((total s a o : ℝ) : EReal) := by
  unfold total
  simp only [hF, coe_sum]

/-- The normalised, scaled, shifted entry and its positive part. -/
theorem norm_coe {s : ℕ} (hs : 0 < s) (g b : ℕ → ℝ) (a : Act) (n i j o : ℕ) {G A M Q C B : EReal}
    (hG : G = ((g o : ℝ) : EReal)) (hA : A = ((a n i j o : ℝ) : EReal)) (hM : M = ((mean s a o : ℝ) : EReal))
    (hQ : Q = ((total s (fun n i j o => (a n i j o - mean s a o) ^ 2) o : ℝ) : EReal)) (hC : C = ((count s : ℝ) : EReal))
    (hB : B = ((b o : ℝ) : EReal)) :
    max (Ideal.div (G * (A - M)) (Ideal.sqrt (Ideal.div Q C + Ideal.ofBits .f32 0x3727C5AC#32)) + B) 0
      = ((norm s g b a n i j o : ℝ) : EReal) := by
  have hv : 0 < var s a o + eps := add_pos_of_nonneg_of_pos (var_nonneg hs a o) eps_pos
  rw [hG, hA, hM, hQ, hC, hB, div_coe (count_pos hs).ne', eps_word, ← EReal.coe_add, ← EReal.coe_sub, ← EReal.coe_mul]
  show max (Ideal.div _ (Ideal.sqrt ((var s a o + eps : ℝ) : EReal)) + _) _ = _
  rw [sqrt_coe hv.le, div_coe (Real.sqrt_pos.mpr hv).ne', ← EReal.coe_add, ← EReal.coe_zero, ← coe_max]
  rfl

/-- The linear map of the channels, at one image. -/
def fuse (fw : ℕ → ℕ → ℝ) (fb : ℕ → ℝ) (a : Act) (n f : ℕ) : ℝ := ∑ k : Fin 256, a n 0 0 k * fw f k + fb f

theorem fuse_coe (fw : ℕ → ℕ → ℝ) (fb : ℕ → ℝ) (a : Act) (n f : ℕ) (X W : Fin 256 → EReal) {B : EReal}
    (hX : ∀ k, X k = ((a n 0 0 k : ℝ) : EReal)) (hW : ∀ k, W k = ((fw f k : ℝ) : EReal)) (hB : B = ((fb f : ℝ) : EReal)) :
    ∑ k, X k * W k + B = ((fuse fw fb a n f : ℝ) : EReal) := by
  unfold fuse
  simp only [hX, hW, hB, ← EReal.coe_mul, EReal.coe_add, coe_sum]

end Cert.Value
-- ==== Proof.Value.Finite.lean ====
/- What the precondition says: every entry of the float arguments is a real number. -/
module

public import proofs.«01_k».proof.Proof.Value.Real
public import proofs.«01_k».proof.Defs
public import Idealize.ShloMosaic.Lib.Pointwise

@[expose] public section

set_option maxRecDepth 16384

noncomputable section

namespace Cert.Value

open Idealize.ShloMosaic Idealize.ShloMosaic.TcCoe Idealize.ShloMosaic.Tactic Idealize.ShloMosaic.Pointwise

/-- A number below the infinite word in absolute value is real. -/
theorem real_of_below (x : EReal) (h : FloatOps.cmpf (F := Ideal) (φ := .f32) .olt (FloatOps.absf (F := Ideal) (φ := .f32) x) (Ideal.ofBits .f32 0x7F800000#32) = 1#1) :
    ∃ r : ℝ, x = (r : EReal) := by
  induction x with
  | coe r => exact ⟨r, rfl⟩
  | bot => exact absurd h (by simp [FloatOps.cmpf, FloatOps.absf, Ideal.cmp, Ideal.ofBits, Ideal.ieee])
  | top => exact absurd h (by simp [FloatOps.cmpf, FloatOps.absf, Ideal.cmp, Ideal.ofBits, Ideal.ieee])

theorem coe_toReal_of {x y : EReal} (e : x = y) (h : ∃ r : ℝ, y = (r : EReal)) : y = ((x.toReal : ℝ) : EReal) := by
  obtain ⟨r, rfl⟩ := h
  rw [e, EReal.toReal_coe]

/-- A real array of vectors, as a function of natural numbers. -/
theorem real_line (A : FVec Ideal ⟨1, ![256]⟩ .f32) (hA : ∀ i, ∃ r : ℝ, A i = (r : EReal)) :
    ∃ a : ℕ → ℝ, ∀ o : Fin 256, A (ix1 o) = ((a o : ℝ) : EReal) :=
  ⟨fun o => (A (ix1 ⟨o % 256, by omega⟩)).toReal, fun o => coe_toReal_of
    (congrArg A (congrArg ix1 (Fin.ext (Nat.mod_eq_of_lt o.isLt)))) (hA _)⟩

theorem real_table {a b : ℕ} (ha : 0 < a) (hb : 0 < b) (A : FVec Ideal ⟨2, ![a, b]⟩ .f32) (hA : ∀ i, ∃ r : ℝ, A i = (r : EReal)) :
    ∃ f : ℕ → ℕ → ℝ, ∀ (i : Fin a) (j : Fin b), A (ix2 i j) = ((f i j : ℝ) : EReal) :=
  ⟨fun i j => (A (ix2 ⟨i % a, Nat.mod_lt _ ha⟩ ⟨j % b, Nat.mod_lt _ hb⟩)).toReal, fun i j => coe_toReal_of
    (congrArg A (congrArg₂ ix2 (Fin.ext (Nat.mod_eq_of_lt i.isLt)) (Fin.ext (Nat.mod_eq_of_lt j.isLt)))) (hA _)⟩

theorem real_filter (A : FVec Ideal ⟨5, ![4, 256, 256, 2, 2]⟩ .f32) (hA : ∀ i, ∃ r : ℝ, A i = (r : EReal)) :
    ∃ w : ℕ → Act, ∀ (L : Fin 4) (o k : Fin 256) (d e : Fin 2), A (ix5 L o k d e) = ((w L o k d e : ℝ) : EReal) :=
  ⟨fun L o k d e => (A (ix5 ⟨L % 4, by omega⟩ ⟨o % 256, by omega⟩ ⟨k % 256, by omega⟩ ⟨d % 2, by omega⟩ ⟨e % 2, by omega⟩)).toReal,
    fun L o k d e => coe_toReal_of (congrArg A (by
      congr <;> exact Nat.mod_eq_of_lt (Fin.isLt _))) (hA _)⟩

theorem real_images (A : FVec Ideal ⟨6, ![8, 64, 1, 16, 16, 256]⟩ .f32) (hA : ∀ i, ∃ r : ℝ, A i = (r : EReal)) :
    ∃ h : Act, ∀ (p : Fin 8) (t : Fin 64) (i j : Fin 16) (k : Fin 256),
      A (ix6 p t 0 i j k) = ((h (64 * p + t) i j k : ℝ) : EReal) :=
  ⟨fun n i j k => (A (ix6 ⟨n / 64 % 8, by omega⟩ ⟨n % 64, by omega⟩ 0 ⟨i % 16, by omega⟩ ⟨j % 16, by omega⟩
      ⟨k % 256, by omega⟩)).toReal,
    fun p t i j k => coe_toReal_of (congrArg A (by
      have e : (⟨(64 * p.val + t.val) / 64 % 8, by omega⟩ : Fin 8) = p := Fin.ext (by show (64 * p.val + t.val) / 64 % 8 = _; omega)
      have e' : (⟨(64 * p.val + t.val) % 64, by omega⟩ : Fin 64) = t := Fin.ext (by show (64 * p.val + t.val) % 64 = _; omega)
      rw [e, e']
      congr <;> exact Nat.mod_eq_of_lt (Fin.isLt _))) (hA _)⟩

end Cert.Value
-- ==== Proof.Value.Head.lean ====
/- The head as functions of real numbers: the linear map's result, its transform along the images of a group, the
   lengths, and the weights of the experts. -/
module

public import proofs.«01_k».proof.Proof.Value.Real

@[expose] public section

noncomputable section

namespace Cert.Value

open Idealize.ShloMosaic

/-- One part of the transform along the 64 images of group `p`, at channel `f` and frequency `k`. -/
def dft (C : ℕ → ℕ → ℝ) (F : ℕ → ℕ → ℝ) (p f k : ℕ) : ℝ := ∑ t : Fin 64, F (64 * p + t) f * C k t

/-- The sum of the squares of the two parts. -/
def power (C S F : ℕ → ℕ → ℝ) (p f k : ℕ) : ℝ :=
  dft C F p f k * dft C F p f k + dft S F p f k * dft S F p f k

theorem power_nonneg (C S F : ℕ → ℕ → ℝ) (p f k : ℕ) : 0 ≤ power C S F p f k :=
  add_nonneg (mul_self_nonneg _) (mul_self_nonneg _)

/-- The weight of expert `e` for group `p`. -/
def weight (C S F wg : ℕ → ℕ → ℝ) (p e : ℕ) : ℝ :=
  (∑ f : Fin 256, ∑ k : Fin 32, √(power C S F p f k) * wg k e) / 256

theorem power_coe (C S F : ℕ → ℕ → ℝ) (p f k : ℕ) {X Y : EReal} (hX : X = ((dft C F p f k : ℝ) : EReal))
    (hY : Y = ((dft S F p f k : ℝ) : EReal)) : Ideal.sqrt (X * X + Y * Y) = ((√(power C S F p f k) : ℝ) : EReal) := by
  rw [hX, hY, ← EReal.coe_mul, ← EReal.coe_mul, ← EReal.coe_add]
  exact sqrt_coe (power_nonneg C S F p f k)

/-- The gate of expert `e` when `i` has the greatest weight and `j` the second: the two weights' shares, zero elsewhere. -/
def gate {n : ℕ} (y : Fin n → ℝ) (i j e : Fin n) : ℝ :=
  if e = i then 1 / (1 + Real.exp (y j - y i))
  else if e = j then Real.exp (y j - y i) / (1 + Real.exp (y j - y i)) else 0

/-- The number of groups whose gate for expert `e` is positive, as a word. -/
def sent {m n : ℕ} (G : Fin m → Fin n → ℝ) (e : Fin n) : BitVec 32 :=
  (Finset.univ : Finset (Fin m)).fold IntOp.addi 0#32 fun p => BitVec.setWidth 32 (BitVec.ofBool (decide (0 < G p e)))

/-! ## The reference's form -/

theorem dft_coe (C F : ℕ → ℕ → ℝ) (p f k : ℕ) (X Y : Fin 64 → EReal) (hX : ∀ t, X t = ((F (64 * p + t) f : ℝ) : EReal))
    (hY : ∀ t, Y t = ((C k t : ℝ) : EReal)) : ∑ t, X t * Y t = ((dft C F p f k : ℝ) : EReal) := by
  unfold dft
  simp only [hX, hY, ← EReal.coe_mul, coe_sum]

theorem weight_coe (C S F wg : ℕ → ℕ → ℝ) (p e : ℕ) (A : Fin 256 → Fin 32 → EReal) (W : Fin 32 → EReal)
    (hA : ∀ f k, A f k = ((√(power C S F p f k) : ℝ) : EReal)) (hW : ∀ k, W k = ((wg k e : ℝ) : EReal)) :
    Ideal.div (∑ f, ∑ k, A f k * W k) ((256 : ℝ) : EReal) = ((weight C S F wg p e : ℝ) : EReal) := by
  simp only [hA, hW, ← EReal.coe_mul, ← coe_sum]
  exact div_coe (by norm_num)

/-! ## The kernel's form -/

/-- A product with a block-diagonal table takes the group's images alone. -/
theorem dft_block_coe (C F : ℕ → ℕ → ℝ) (q f k : ℕ) (hq : q < 8) (X Y : Fin 512 → EReal)
    (hX : ∀ t, X t = if q = t.val / 64 then ((C k (t % 64) : ℝ) : EReal) else 0) (hY : ∀ t, Y t = ((F t f : ℝ) : EReal)) :
    ∑ t, X t * Y t = ((dft C F q f k : ℝ) : EReal) := by
  have h : ∀ t : Fin 512, X t * Y t
      = (((if q = t.val / 64 then F (64 * (t.val / 64) + t.val % 64) f * C k (t.val % 64) else 0 : ℝ)) : EReal) := fun t => by
    rw [hX, hY, Nat.div_add_mod]
    split
    · rw [← EReal.coe_mul, mul_comm]
    · rw [zero_mul, EReal.coe_zero]
  simp only [h]
  rw [← coe_sum]
  refine congrArg _ ((Fin.sum_univ_mul_divmod 8 64 fun a t => if q = a then F (64 * a + t) f * C k t else 0).trans ?_)
  unfold dft
  rw [Finset.sum_eq_single (⟨q, hq⟩ : Fin 8)]
  · simp
  · intro a _ ha
    refine Finset.sum_eq_zero fun t _ => if_neg fun e => ha (Fin.ext e.symm)
  · simp

/-- The lengths averaged over the channels first, then weighted, then the rows of the group picked out. -/
theorem weight_rows_coe (C S F wg : ℕ → ℕ → ℝ) (p e : ℕ) (hp : p < 8) (B W Z : Fin 256 → EReal)
    (A : Fin 256 → Fin 256 → EReal)
    (hA : ∀ r f, A r f = ((√(power C S F (r / 32) f (r % 32)) : ℝ) : EReal))
    (hB : ∀ r, B r = if r.val / 32 = p then 1 else 0) (hW : ∀ r, W r = ((wg (r % 32) e : ℝ) : EReal))
    (hZ : ∀ r, Z r = (∑ f, A r f) * ((1 / 256 : ℝ) : EReal) * W r) :
    ∑ r, B r * Z r = ((weight C S F wg p e : ℝ) : EReal) := by
  have h : ∀ r : Fin 256, B r * Z r = (((if r.val / 32 = p then
      (∑ f : Fin 256, √(power C S F (r.val / 32) f (r.val % 32))) * (1 / 256) * wg (r.val % 32) e else 0 : ℝ)) : EReal) := fun r => by
    rw [hB, hZ, hW]
    simp only [hA, ← coe_sum, ← EReal.coe_mul]
    split
    · rw [one_mul]
    · rw [zero_mul, EReal.coe_zero]
  simp only [h]
  rw [← coe_sum]
  refine congrArg _ ((Fin.sum_univ_mul_divmod 8 32 fun a k => if a = p then
    (∑ f : Fin 256, √(power C S F a f k)) * (1 / 256) * wg k e else 0).trans ?_)
  rw [Finset.sum_eq_single (⟨p, hp⟩ : Fin 8)]
  · unfold weight
    rw [Finset.sum_comm, Finset.sum_div]
    refine Finset.sum_congr rfl fun k _ => ?_
    rw [if_pos rfl, ← Finset.sum_mul]
    ring
  · intro a _ ha
    refine Finset.sum_eq_zero fun t _ => if_neg fun e => ha (Fin.ext e)
  · simp

end Cert.Value
-- ==== Proof.Value.Table.lean ====
/- The constant tables of the two programs: the same words, every one a real number. -/
module

public import proofs.«01_k».proof.KernelIdeal
public import proofs.«01_k».proof.ReferenceIdeal
public import proofs.«01_k».proof.Proof.Value.Real

@[expose] public section

set_option maxRecDepth 16384

noncomputable section

namespace Cert.Value

open Idealize.ShloMosaic

/-- A word whose exponent is not all ones is a real number. -/
theorem word_finite (b : BitVec 32) (h : b.extractLsb' 23 8 ≠ 255#8) :
    Ideal.ofBits .f32 b = (((Ideal.ofBits .f32 b).toReal : ℝ) : EReal) := by
  have h' : (b.extractLsb' 23 8).toNat ≠ 255 := fun e => h (BitVec.eq_of_toNat_eq e)
  have : ∃ r : ℝ, Ideal.ofBits .f32 b = (r : EReal) := by
    show ∃ r : ℝ, Ideal.ieee 8 23 b = (r : EReal)
    unfold Ideal.ieee
    simp only
    rw [if_neg (show ¬ (b.extractLsb' 23 8).toNat = 2 ^ 8 - 1 from h')]
    split <;> exact ⟨_, rfl⟩
  obtain ⟨r, hr⟩ := this
  rw [hr, EReal.toReal_coe]

/-- The entry in row `k` and column `t` of a table of 32 rows and 64 columns. -/
def entry (l : Fin 2048 → BitVec 32) (k t : ℕ) : ℝ :=
  if h : k * 64 + t < 2048 then (Ideal.ofBits .f32 (l ⟨k * 64 + t, h⟩)).toReal else 0

theorem place : ∀ (k : Fin 32) (t : Fin 64),
    ((⟨2, ![32, 64]⟩ : Shape).rowMajor (ix2 k t)).val = k.val * 64 + t.val := by decide +kernel

theorem entry_coe (l : Fin 2048 → BitVec 32) (h : ∀ i, (l i).extractLsb' 23 8 ≠ 255#8) (k : Fin 32) (t : Fin 64) :
    Ideal.ofBits .f32 (l ((⟨2, ![32, 64]⟩ : Shape).rowMajor (ix2 k t))) = ((entry l k t : ℝ) : EReal) := by
  have hp : k.val * 64 + t.val < 2048 := by omega
  refine (word_finite _ (h _)).trans ?_
  rw [entry, dif_pos hp]
  exact congrArg (fun i => (((Ideal.ofBits .f32 (l i)).toReal : ℝ) : EReal)) (Fin.ext (place k t))

theorem cos_finite : ∀ i, (KernelIdeal.lit0 i).extractLsb' 23 8 ≠ 255#8 := by decide +kernel
theorem sin_finite : ∀ i, (KernelIdeal.lit1 i).extractLsb' 23 8 ≠ 255#8 := by decide +kernel
theorem cos_same : ReferenceIdeal.lit0 = KernelIdeal.lit0 := funext (by decide +kernel)
theorem sin_same : ReferenceIdeal.lit1 = KernelIdeal.lit1 := funext (by decide +kernel)

/-- The table that picks the rows of a group. -/
theorem pick_words : ∀ (p : Fin 8) (r : Fin 256), KernelIdeal.lit2 ((⟨2, ![8, 256]⟩ : Shape).rowMajor (ix2 p r))
    = if r.val / 32 = p.val then 0x3F800000#32 else 0x00000000#32 := by decide +kernel

theorem word_one : Ideal.ofBits .f32 0x3F800000#32 = 1 := by
  rw [word_coe _ 127 0 (by decide) (by decide) (by decide) (by decide) (by decide)]
  norm_num

theorem word_zero : Ideal.ofBits .f32 0x00000000#32 = 0 := by
  show Ideal.ieee 8 23 (0x00000000#32 : BitVec 32) = 0
  unfold Ideal.ieee
  norm_num

theorem pick (p : Fin 8) (r : Fin 256) : Ideal.ofBits .f32 (KernelIdeal.lit2 ((⟨2, ![8, 256]⟩ : Shape).rowMajor (ix2 p r)))
    = if r.val / 32 = p.val then 1 else 0 := by
  rw [pick_words]
  split
  · exact word_one
  · exact word_zero

end Cert.Value
-- ==== Proof.Value.Net.lean ====
/- The whole function over the reals: four convolutions with their normalisations, the linear map, and the experts'
weights. -/
module

public import proofs.«01_k».proof.Proof.Value.Real
public import proofs.«01_k».proof.Proof.Value.Head
public import proofs.«01_k».proof.Proof.Value.Table

@[expose] public section

noncomputable section

namespace Cert.Value

/-- The arguments as real functions. -/
structure Params where
  /-- image, row, column, channel -/
  images : Act
  /-- layer, output channel, input channel, row, column -/
  filter : ℕ → Act
  gain : ℕ → ℕ → ℝ
  offset : ℕ → ℕ → ℝ
  map : ℕ → ℕ → ℝ
  bias : ℕ → ℝ
  router : ℕ → ℕ → ℝ

namespace Params
variable (P : Params)

/-- The four convolutions, each of the normalised result of the one before. -/
def first : Act := conv P.images (P.filter 0)
def second : Act := conv (norm 8 (P.gain 0) (P.offset 0) P.first) (P.filter 1)
def third : Act := conv (norm 4 (P.gain 1) (P.offset 1) P.second) (P.filter 2)
def fourth : Act := conv (norm 2 (P.gain 2) (P.offset 2) P.third) (P.filter 3)

/-- The features of an image. -/
def features : ℕ → ℕ → ℝ := fuse P.map P.bias (norm 1 (P.gain 3) (P.offset 3) P.fourth)

/-- The weight of expert `e` for group `p`. -/
def logits (p : Fin 8) (e : Fin 14) : ℝ := weight (entry KernelIdeal.lit0) (entry KernelIdeal.lit1) P.features P.router p e

end Params

end Cert.Value
-- ==== Proof.Value.Entry.lean ====
/- What the host operations between the calls leave in the arrays that the calls read. -/
module

public import proofs.«01_k».proof.Proof.KernelIdealRun.Hosts0
public import Idealize.ShloMosaic.Lib.StableHlo.ReadAt
public import Idealize.ShloMosaic.Lib.Pointwise

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.ShloMosaic.Tactic Idealize.ShloMosaic.Pointwise

variable (V : Valuation τ sig (Elt Ideal))

/-! ## Before the first call -/

theorem entry_images (n : Fin 512) (i : Fin 8) (d : Fin 2) (j : Fin 16) (k : Fin 256) :
    StableHlo.after hostOps0 V (Proc.devRef .tc main_v24) (ix5 n i d j k)
      = V (Proc.devRef .tc main_arg0) (ix6 ⟨n / 64, by omega⟩ ⟨n % 64, by omega⟩ 0 ⟨i * 2 + d, by omega⟩ j k) := by
  after_reads_at

theorem entry_weights0 (d : Fin 2) (x : Fin 512) (o : Fin 256) :
    StableHlo.after hostOps0 V (Proc.devRef .tc main_v4) (ix3 d x o)
      = V (Proc.devRef .tc main_arg2) (ix5 0 o ⟨x % 256, by omega⟩ d ⟨x / 256, by omega⟩) := by
  after_reads_at

theorem entry_weights1 (d : Fin 2) (x : Fin 512) (o : Fin 256) :
    StableHlo.after hostOps0 V (Proc.devRef .tc main_v9) (ix3 d x o)
      = V (Proc.devRef .tc main_arg2) (ix5 1 o ⟨x % 256, by omega⟩ d ⟨x / 256, by omega⟩) := by
  after_reads_at

theorem entry_weights2 (d : Fin 2) (x : Fin 512) (o : Fin 256) :
    StableHlo.after hostOps0 V (Proc.devRef .tc main_v14) (ix3 d x o)
      = V (Proc.devRef .tc main_arg2) (ix5 2 o ⟨x % 256, by omega⟩ d ⟨x / 256, by omega⟩) := by
  after_reads_at

theorem entry_weights3 (d : Fin 2) (x : Fin 512) (o : Fin 256) :
    StableHlo.after hostOps0 V (Proc.devRef .tc main_v19) (ix3 d x o)
      = V (Proc.devRef .tc main_arg2) (ix5 3 o ⟨x % 256, by omega⟩ d ⟨x / 256, by omega⟩) := by
  after_reads_at

/-! ## Before the second call -/

theorem entry_rows1 (n : Fin 512) (i : Fin 4) (d : Fin 2) (j : Fin 8) (k : Fin 256) :
    StableHlo.after hostOps1 V (Proc.devRef .tc main_v32) (ix5 n i d j k)
      = V (Proc.devRef .tc main_v25_0) (ix4 n ⟨i * 2 + d, by omega⟩ j k) := by
  after_reads_at

theorem entry_gain1 (o : Fin 256) :
    StableHlo.after hostOps1 V (Proc.devRef .tc main_v28) (ix2 0 o) = V (Proc.devRef .tc main_arg4) (ix2 0 o) := by
  after_reads_at

theorem entry_offset1 (o : Fin 256) :
    StableHlo.after hostOps1 V (Proc.devRef .tc main_v31) (ix2 0 o) = V (Proc.devRef .tc main_arg5) (ix2 0 o) := by
  after_reads_at

/-! ## Before the third call -/

theorem entry_rows2 (n : Fin 512) (i : Fin 2) (d : Fin 2) (j : Fin 4) (k : Fin 256) :
    StableHlo.after hostOps2 V (Proc.devRef .tc main_v40) (ix5 n i d j k)
      = V (Proc.devRef .tc main_v33_0) (ix4 n ⟨i * 2 + d, by omega⟩ j k) := by
  after_reads_at

theorem entry_gain2 (o : Fin 256) :
    StableHlo.after hostOps2 V (Proc.devRef .tc main_v36) (ix2 0 o) = V (Proc.devRef .tc main_arg4) (ix2 1 o) := by
  after_reads_at

theorem entry_offset2 (o : Fin 256) :
    StableHlo.after hostOps2 V (Proc.devRef .tc main_v39) (ix2 0 o) = V (Proc.devRef .tc main_arg5) (ix2 1 o) := by
  after_reads_at

/-! ## Before the fourth call -/

theorem entry_rows3 (n : Fin 512) (i : Fin 1) (d : Fin 2) (j : Fin 2) (k : Fin 256) :
    StableHlo.after hostOps3 V (Proc.devRef .tc main_v48) (ix5 n i d j k)
      = V (Proc.devRef .tc main_v41_0) (ix4 n ⟨i * 2 + d, by omega⟩ j k) := by
  after_reads_at

theorem entry_gain3 (o : Fin 256) :
    StableHlo.after hostOps3 V (Proc.devRef .tc main_v44) (ix2 0 o) = V (Proc.devRef .tc main_arg4) (ix2 2 o) := by
  after_reads_at

theorem entry_offset3 (o : Fin 256) :
    StableHlo.after hostOps3 V (Proc.devRef .tc main_v47) (ix2 0 o) = V (Proc.devRef .tc main_arg5) (ix2 2 o) := by
  after_reads_at

/-! ## Before the head -/

theorem entry_rows4 (n : Fin 512) (k : Fin 256) :
    StableHlo.after hostOps4 V (Proc.devRef .tc main_v72) (ix2 n k) = V (Proc.devRef .tc main_v49_0) (ix4 n 0 0 k) := by
  after_reads_at

theorem entry_gain4 (o : Fin 256) :
    StableHlo.after hostOps4 V (Proc.devRef .tc main_v75) (ix2 0 o) = V (Proc.devRef .tc main_arg4) (ix2 3 o) := by
  after_reads_at

theorem entry_offset4 (o : Fin 256) :
    StableHlo.after hostOps4 V (Proc.devRef .tc main_v78) (ix2 0 o) = V (Proc.devRef .tc main_arg5) (ix2 3 o) := by
  after_reads_at

theorem entry_map (k f : Fin 256) :
    StableHlo.after hostOps4 V (Proc.devRef .tc main_v79) (ix2 k f) = V (Proc.devRef .tc main_arg6) (ix2 f k) := by
  after_reads_at

theorem entry_bias (f : Fin 256) :
    StableHlo.after hostOps4 V (Proc.devRef .tc main_v80) (ix2 0 f) = V (Proc.devRef .tc main_arg7) (ix1 f) := by
  after_reads_at

theorem entry_gate (r : Fin 256) (e : Fin 14) :
    StableHlo.after hostOps4 V (Proc.devRef .tc main_v71) (ix2 r e)
      = V (Proc.devRef .tc main_arg8) (ix2 ⟨r % 32, by omega⟩ e) := by
  after_reads_at

/-- A table laid out by comparing block numbers: the entry on the diagonal blocks, zero off them. -/
theorem select_block (a b : ℕ) (ha : a < 8) (hb : b < 8) (x : EReal) :
    Scalar.select (IntOp.cmpi .eq (BitVec.ofNat 32 a) (BitVec.ofNat 32 b)) x 0 = if a = b then x else 0 := by
  interval_cases a <;> interval_cases b <;> rfl

theorem entry_cos (r : Fin 256) (t : Fin 512) :
    @Eq EReal (StableHlo.after hostOps4 V (Proc.devRef .tc main_v62) (ix2 r t))
      (if r.val / 32 = t.val / 64 then V (Proc.devRef .tc main_cst) (ix2 ⟨r % 32, by omega⟩ ⟨t % 64, by omega⟩) else (0 : EReal)) := by
  refine Eq.trans ?_ (select_block _ _ (by omega) (by omega) _)
  after_reads_at

theorem entry_sin (r : Fin 256) (t : Fin 512) :
    @Eq EReal (StableHlo.after hostOps4 V (Proc.devRef .tc main_v68) (ix2 r t))
      (if r.val / 32 = t.val / 64 then V (Proc.devRef .tc main_cst_0) (ix2 ⟨r % 32, by omega⟩ ⟨t % 64, by omega⟩) else (0 : EReal)) := by
  refine Eq.trans ?_ (select_block _ _ (by omega) (by omega) _)
  after_reads_at

/-! ## The constants, written before the first call -/

theorem entry_cos_table (k : Fin 32) (t : Fin 64) :
    @Eq EReal (StableHlo.after hostOps0 V (Proc.devRef .tc main_cst) (ix2 k t)) (Ideal.ofBits .f32 (lit0 (S32x64.rowMajor (ix2 k t)))) := by
  after_reads_at

theorem entry_sin_table (k : Fin 32) (t : Fin 64) :
    @Eq EReal (StableHlo.after hostOps0 V (Proc.devRef .tc main_cst_0) (ix2 k t)) (Ideal.ofBits .f32 (lit1 (S32x64.rowMajor (ix2 k t)))) := by
  after_reads_at

theorem entry_sel (p : Fin 8) (r : Fin 256) :
    @Eq EReal (StableHlo.after hostOps0 V (Proc.devRef .tc main_cst_1) (ix2 p r)) (Ideal.ofBits .f32 (lit2 (S8x256.rowMajor (ix2 p r)))) := by
  after_reads_at

/-! ## After the head -/

theorem exit_load (e : Fin 14) :
    StableHlo.after hostOps5 V (Proc.devRef .tc main_v82) (ix1 e) = V (Proc.devRef .tc main_v81_1) (ix2 0 e) := by
  after_reads_at

end Cert.KernelIdeal.Value
-- ==== Proof.Value.Pay.lean ====
/-
  What the convolution calls store, over the reals: a block of the next activation and its two channel sums, from blocks
  of the previous activation (and, past the first call, from its channel sums).
-/
module

public import proofs.«01_k».proof.Proof.Value.Real
public import proofs.«01_k».proof.Proof.Gen.KernelIdeal.Skeleton

@[expose] public section

set_option maxRecDepth 16384

noncomputable section

namespace Cert.KernelIdeal.Value

open Cert.KernelIdeal Cert.KernelIdeal.Gen Cert.Value
open Idealize.ShloMosaic Idealize.ShloMosaic.Pointwise

/-- The window's row `di` of a weight table, as the call reads it. -/
def IsWeight (w : Act) (di : ℕ) (v : Vec Ideal S1x512x256 .bf16) : Prop :=
  ∀ (x : Fin 512) (o : Fin 256), v (ix3 0 x o) = ((w o (x % 256) di (x / 256) : ℝ) : EReal)

/-- A row of channel values. -/
def IsRow (r : ℕ → ℝ) (v : S1x256.Idx → EReal) : Prop := ∀ o : Fin 256, v (ix2 0 o) = ((r o : ℝ) : EReal)

/-- The activation read through a scale and a shift, its positive part. -/
def through (sc sh : ℕ → ℝ) (a : Act) : Act := fun n i j c => max (a n i j c * sc c + sh c) 0

/-- With the scale and the shift of the channel sums it is the normalisation. -/
theorem through_norm (s : ℕ) (g b : ℕ → ℝ) (a : Act) :
    through (scale s g a) (shift s g b a) a = norm s g b a := by
  funext n i j o
  exact (norm_affine s g b a n i j o).symm

/-! ## The first call -/

section First
variable {h w : Act} {v0 v5 : Vec Ideal S64x8x1x16x256 .f32} {v10 v13 : Vec Ideal S1x512x256 .bf16}
  (h0 : ∀ (n : Fin 64) (i : Fin 8) (j : Fin 16) (c : Fin 256), v0 (ix5 n i 0 j c) = ((h n (2 * i) j c : ℝ) : EReal))
  (h1 : ∀ (n : Fin 64) (i : Fin 8) (j : Fin 16) (c : Fin 256), v5 (ix5 n i 0 j c) = ((h n (2 * i + 1) j c : ℝ) : EReal))
  (w0 : IsWeight w 0 v10) (w1 : IsWeight w 1 v13)
include h0 h1 w0 w1

theorem rows0 (r : Fin 4096) (o : Fin 256) :
    k0_pay2 v0 v5 v10 v13 (ix2 r o) = ((conv h w (r / 8 / 8) (r / 8 % 8) (r % 8) o : ℝ) : EReal) := by
  pointwise [k0_pay2]
  exact conv_coe h w _ _ _ _ _ _ _ _ (fun _ => h0 _ _ _ _) (fun _ => w0 _ _) (fun _ => h1 _ _ _ _) (fun _ => w1 _ _)

theorem out0 (n : Fin 64) (i j : Fin 8) (o : Fin 256) :
    k0_pay3 v0 v5 v10 v13 (ix4 n i j o) = ((conv h w n i j o : ℝ) : EReal) := by
  pointwise [k0_pay3]
  rw [rows0 h0 h1 w0 w1]
  congr 2 <;> (simp only; omega)

theorem sums0 (o : Fin 256) : k0_pay4 v0 v5 v10 v13 (ix2 0 o) = ((part 64 8 (conv h w) o : ℝ) : EReal) := by
  pointwise [k0_pay4]
  exact rows_coe 64 8 rfl _ _ _ fun r => rows0 h0 h1 w0 w1 r o

theorem squares0 (o : Fin 256) :
    k0_pay4 v0 v5 v10 v13 (ix2 1 o) = ((part 64 8 (fun n i j o => conv h w n i j o * conv h w n i j o) o : ℝ) : EReal) := by
  pointwise [k0_pay4]
  exact rows_coe 64 8 rfl _ _ _ fun r => by rw [rows0 h0 h1 w0 w1, EReal.coe_mul]

end First

/-! ## The second call -/

section Second
variable {a w : Act} {sc sh : ℕ → ℝ} {v0 v2 v4 v6 : Vec Ideal S1x256 .f32} {v22 v34 : Vec Ideal S128x4x1x8x256 .bf16}
  {v46 v49 : Vec Ideal S1x512x256 .bf16}

theorem scale1 {a : Act} {g : ℕ → ℝ} (hS : IsRow (total 8 a) v0)
    (hQ : IsRow (total 8 fun n i j o => a n i j o * a n i j o) v2) (hG : IsRow g v4) :
    IsRow (scale 8 g a) (k1_pay7 v0 v2 v4) := fun o => by
  pointwise [k1_pay7, k1_pay6, k1_pay5]
  exact scale_coe (by decide) g a o (hS o) (hQ o) (hG o) (word_32768.trans (by norm_num [Cert.Value.count]))

theorem shift1 {a : Act} {g b : ℕ → ℝ} (hS : IsRow (total 8 a) v0)
    (hQ : IsRow (total 8 fun n i j o => a n i j o * a n i j o) v2) (hG : IsRow g v4) (hB : IsRow b v6) :
    IsRow (shift 8 g b a) (k1_pay8 v0 v2 v4 v6) := fun o => by
  pointwise [k1_pay8, k1_pay6, k1_pay5]
  exact shift_coe (by decide) g b a o (hS o) (hQ o) (hG o) (hB o) (word_32768.trans (by norm_num [Cert.Value.count]))

variable (h0 : ∀ (n : Fin 128) (i : Fin 4) (j : Fin 8) (c : Fin 256), v22 (ix5 n i 0 j c) = ((a n (2 * i) j c : ℝ) : EReal))
  (h1 : ∀ (n : Fin 128) (i : Fin 4) (j : Fin 8) (c : Fin 256), v34 (ix5 n i 0 j c) = ((a n (2 * i + 1) j c : ℝ) : EReal))
  (w0 : IsWeight w 0 v46) (w1 : IsWeight w 1 v49)
  (hsc : IsRow sc (k1_pay7 v0 v2 v4)) (hsh : IsRow sh (k1_pay8 v0 v2 v4 v6))
include h0 h1 w0 w1 hsc hsh

theorem rows1 (r : Fin 2048) (o : Fin 256) :
    k1_pay1 (k1_pay7 v0 v2 v4) (k1_pay8 v0 v2 v4 v6) (k1_pay9 v0 v2 v4 v6 v22) (k1_pay10 v34) v46 v49 (ix2 r o)
      = ((conv (through sc sh a) w (r / 4 / 4) (r / 4 % 4) (r % 4) o : ℝ) : EReal) := by
  pointwise [k1_pay1, k1_pay9, k1_pay10]
  refine conv_coe (through sc sh a) w _ _ _ _ _ _ _ _ (fun _ => ?_) (fun _ => w0 _ _) (fun _ => ?_) (fun _ => w1 _ _)
  · rw [h0, hsc, hsh, relu_coe]; rfl
  · rw [h1, hsc, hsh, relu_coe]; rfl

theorem out1 (n : Fin 128) (i j : Fin 4) (o : Fin 256) :
    k1_pay2 (k1_pay7 v0 v2 v4) (k1_pay8 v0 v2 v4 v6) (k1_pay9 v0 v2 v4 v6 v22) (k1_pay10 v34) v46 v49 (ix4 n i j o)
      = ((conv (through sc sh a) w n i j o : ℝ) : EReal) := by
  pointwise [k1_pay2]
  rw [rows1 h0 h1 w0 w1 hsc hsh]
  congr 2 <;> (simp only; omega)

theorem sums1 (o : Fin 256) :
    k1_pay3 (k1_pay7 v0 v2 v4) (k1_pay8 v0 v2 v4 v6) (k1_pay9 v0 v2 v4 v6 v22) (k1_pay10 v34) v46 v49 (ix2 0 o)
      = ((part 128 4 (conv (through sc sh a) w) o : ℝ) : EReal) := by
  pointwise [k1_pay3]
  exact rows_coe 128 4 rfl _ _ _ fun r => rows1 h0 h1 w0 w1 hsc hsh r o

theorem squares1 (o : Fin 256) :
    k1_pay3 (k1_pay7 v0 v2 v4) (k1_pay8 v0 v2 v4 v6) (k1_pay9 v0 v2 v4 v6 v22) (k1_pay10 v34) v46 v49 (ix2 1 o)
      = ((part 128 4 (fun n i j o => conv (through sc sh a) w n i j o * conv (through sc sh a) w n i j o) o : ℝ) : EReal) := by
  pointwise [k1_pay3]
  exact rows_coe 128 4 rfl _ _ _ fun r => by rw [rows1 h0 h1 w0 w1 hsc hsh, EReal.coe_mul]

end Second

/-! ## The third call -/

section Third
variable {a w : Act} {sc sh : ℕ → ℝ} {v0 v2 v4 v6 : Vec Ideal S1x256 .f32} {v22 v34 : Vec Ideal S512x2x1x4x256 .bf16}
  {v46 v49 : Vec Ideal S1x512x256 .bf16}

theorem scale2 {a : Act} {g : ℕ → ℝ} (hS : IsRow (total 4 a) v0)
    (hQ : IsRow (total 4 fun n i j o => a n i j o * a n i j o) v2) (hG : IsRow g v4) :
    IsRow (scale 4 g a) (k2_pay7 v0 v2 v4) := fun o => by
  pointwise [k2_pay7, k2_pay6, k2_pay5]
  exact scale_coe (by decide) g a o (hS o) (hQ o) (hG o) (word_8192.trans (by norm_num [Cert.Value.count]))

theorem shift2 {a : Act} {g b : ℕ → ℝ} (hS : IsRow (total 4 a) v0)
    (hQ : IsRow (total 4 fun n i j o => a n i j o * a n i j o) v2) (hG : IsRow g v4) (hB : IsRow b v6) :
    IsRow (shift 4 g b a) (k2_pay8 v0 v2 v4 v6) := fun o => by
  pointwise [k2_pay8, k2_pay6, k2_pay5]
  exact shift_coe (by decide) g b a o (hS o) (hQ o) (hG o) (hB o) (word_8192.trans (by norm_num [Cert.Value.count]))

variable (h0 : ∀ (n : Fin 512) (i : Fin 2) (j : Fin 4) (c : Fin 256), v22 (ix5 n i 0 j c) = ((a n (2 * i) j c : ℝ) : EReal))
  (h1 : ∀ (n : Fin 512) (i : Fin 2) (j : Fin 4) (c : Fin 256), v34 (ix5 n i 0 j c) = ((a n (2 * i + 1) j c : ℝ) : EReal))
  (w0 : IsWeight w 0 v46) (w1 : IsWeight w 1 v49)
  (hsc : IsRow sc (k2_pay7 v0 v2 v4)) (hsh : IsRow sh (k2_pay8 v0 v2 v4 v6))
include h0 h1 w0 w1 hsc hsh

theorem rows2 (r : Fin 2048) (o : Fin 256) :
    k2_pay1 (k2_pay7 v0 v2 v4) (k2_pay8 v0 v2 v4 v6) (k2_pay9 v0 v2 v4 v6 v22) (k2_pay10 v34) v46 v49 (ix2 r o)
      = ((conv (through sc sh a) w (r / 2 / 2) (r / 2 % 2) (r % 2) o : ℝ) : EReal) := by
  pointwise [k2_pay1, k2_pay9, k2_pay10]
  refine conv_coe (through sc sh a) w _ _ _ _ _ _ _ _ (fun _ => ?_) (fun _ => w0 _ _) (fun _ => ?_) (fun _ => w1 _ _)
  · rw [h0, hsc, hsh, relu_coe]; rfl
  · rw [h1, hsc, hsh, relu_coe]; rfl

theorem out2 (n : Fin 512) (i j : Fin 2) (o : Fin 256) :
    k2_pay2 (k2_pay7 v0 v2 v4) (k2_pay8 v0 v2 v4 v6) (k2_pay9 v0 v2 v4 v6 v22) (k2_pay10 v34) v46 v49 (ix4 n i j o)
      = ((conv (through sc sh a) w n i j o : ℝ) : EReal) := by
  pointwise [k2_pay2]
  rw [rows2 h0 h1 w0 w1 hsc hsh]
  congr 2 <;> (simp only; omega)

theorem sums2 (o : Fin 256) :
    k2_pay3 (k2_pay7 v0 v2 v4) (k2_pay8 v0 v2 v4 v6) (k2_pay9 v0 v2 v4 v6 v22) (k2_pay10 v34) v46 v49 (ix2 0 o)
      = ((part 512 2 (conv (through sc sh a) w) o : ℝ) : EReal) := by
  pointwise [k2_pay3]
  exact rows_coe 512 2 rfl _ _ _ fun r => rows2 h0 h1 w0 w1 hsc hsh r o

theorem squares2 (o : Fin 256) :
    k2_pay3 (k2_pay7 v0 v2 v4) (k2_pay8 v0 v2 v4 v6) (k2_pay9 v0 v2 v4 v6 v22) (k2_pay10 v34) v46 v49 (ix2 1 o)
      = ((part 512 2 (fun n i j o => conv (through sc sh a) w n i j o * conv (through sc sh a) w n i j o) o : ℝ) : EReal) := by
  pointwise [k2_pay3]
  exact rows_coe 512 2 rfl _ _ _ fun r => by rw [rows2 h0 h1 w0 w1 hsc hsh, EReal.coe_mul]

end Third

/-! ## The fourth call -/

section Fourth
variable {a w : Act} {sc sh : ℕ → ℝ} {v0 v2 v4 v6 : Vec Ideal S1x256 .f32} {v22 v34 : Vec Ideal S512x1x1x2x256 .bf16}
  {v46 v49 : Vec Ideal S1x512x256 .bf16}

theorem scale3 {a : Act} {g : ℕ → ℝ} (hS : IsRow (total 2 a) v0)
    (hQ : IsRow (total 2 fun n i j o => a n i j o * a n i j o) v2) (hG : IsRow g v4) :
    IsRow (scale 2 g a) (k3_pay7 v0 v2 v4) := fun o => by
  pointwise [k3_pay7, k3_pay6, k3_pay5]
  exact scale_coe (by decide) g a o (hS o) (hQ o) (hG o) (word_2048.trans (by norm_num [Cert.Value.count]))

theorem shift3 {a : Act} {g b : ℕ → ℝ} (hS : IsRow (total 2 a) v0)
    (hQ : IsRow (total 2 fun n i j o => a n i j o * a n i j o) v2) (hG : IsRow g v4) (hB : IsRow b v6) :
    IsRow (shift 2 g b a) (k3_pay8 v0 v2 v4 v6) := fun o => by
  pointwise [k3_pay8, k3_pay6, k3_pay5]
  exact shift_coe (by decide) g b a o (hS o) (hQ o) (hG o) (hB o) (word_2048.trans (by norm_num [Cert.Value.count]))

variable (h0 : ∀ (n : Fin 512) (i : Fin 1) (j : Fin 2) (c : Fin 256), v22 (ix5 n i 0 j c) = ((a n (2 * i) j c : ℝ) : EReal))
  (h1 : ∀ (n : Fin 512) (i : Fin 1) (j : Fin 2) (c : Fin 256), v34 (ix5 n i 0 j c) = ((a n (2 * i + 1) j c : ℝ) : EReal))
  (w0 : IsWeight w 0 v46) (w1 : IsWeight w 1 v49)
  (hsc : IsRow sc (k3_pay7 v0 v2 v4)) (hsh : IsRow sh (k3_pay8 v0 v2 v4 v6))
include h0 h1 w0 w1 hsc hsh

theorem rows3 (r : Fin 512) (o : Fin 256) :
    k3_pay1 (k3_pay7 v0 v2 v4) (k3_pay8 v0 v2 v4 v6) (k3_pay9 v0 v2 v4 v6 v22) (k3_pay10 v34) v46 v49 (ix2 r o)
      = ((conv (through sc sh a) w r 0 0 o : ℝ) : EReal) := by
  pointwise [k3_pay1, k3_pay9, k3_pay10]
  refine conv_coe (through sc sh a) w _ _ _ _ _ _ _ _ (fun _ => ?_) (fun _ => w0 _ _) (fun _ => ?_) (fun _ => w1 _ _)
  · rw [h0, hsc, hsh, relu_coe]; simp [through]
  · rw [h1, hsc, hsh, relu_coe]; simp [through]

theorem out3 (n : Fin 512) (i j : Fin 1) (o : Fin 256) :
    k3_pay2 (k3_pay7 v0 v2 v4) (k3_pay8 v0 v2 v4 v6) (k3_pay9 v0 v2 v4 v6 v22) (k3_pay10 v34) v46 v49 (ix4 n i j o)
      = ((conv (through sc sh a) w n i j o : ℝ) : EReal) := by
  pointwise [k3_pay2]
  rw [rows3 h0 h1 w0 w1 hsc hsh]

theorem sums3 (o : Fin 256) :
    k3_pay3 (k3_pay7 v0 v2 v4) (k3_pay8 v0 v2 v4 v6) (k3_pay9 v0 v2 v4 v6 v22) (k3_pay10 v34) v46 v49 (ix2 0 o)
      = ((part 512 1 (conv (through sc sh a) w) o : ℝ) : EReal) := by
  pointwise [k3_pay3]
  exact rows_coe 512 1 rfl _ _ _ fun r => by rw [rows3 h0 h1 w0 w1 hsc hsh]; simp [Nat.mod_one]

theorem squares3 (o : Fin 256) :
    k3_pay3 (k3_pay7 v0 v2 v4) (k3_pay8 v0 v2 v4 v6) (k3_pay9 v0 v2 v4 v6 v22) (k3_pay10 v34) v46 v49 (ix2 1 o)
      = ((part 512 1 (fun n i j o => conv (through sc sh a) w n i j o * conv (through sc sh a) w n i j o) o : ℝ) : EReal) := by
  pointwise [k3_pay3]
  exact rows_coe 512 1 rfl _ _ _ fun r => by rw [rows3 h0 h1 w0 w1 hsc hsh]; simp [Nat.mod_one]

end Fourth

end Cert.KernelIdeal.Value
-- ==== Proof.Value.Arr0.lean ====
/- What the first call leaves in its two result arrays. -/
module

public import proofs.«01_k».proof.Proof.Value.Pay
public import proofs.«01_k».proof.Proof.KernelIdealRun.Region0
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

variable {V : (c : Dev nD) → (b : Ref sig .tc) → Buf (Elt Ideal) ((c : Thread nD τ).loc b)} {c : Dev nD} {h w : Act}

/-- Which block each window holds at a point. -/
theorem idx0 : ∀ t : Fin cfg0.N, win0_0.index t = ![t.val, 0, 0, 0, 0] ∧ win0_1.index t = ![t.val, 0, 1, 0, 0]
    ∧ win0_2.index t = ![0, 0, 0] ∧ win0_6.index t = ![t.val, 0, 0, 0] := by decide +kernel

variable (hx : ∀ (n : Fin 512) (i : Fin 8) (d : Fin 2) (j : Fin 16) (k : Fin 256),
    V c main_v24 (ix5 n i d j k) = ((h n (2 * i + d) j k : ℝ) : EReal))
  (hw : ∀ (d : Fin 2) (x : Fin 512) (o : Fin 256), V c main_v4 (ix3 d x o) = ((w o (x % 256) d (x / 256) : ℝ) : EReal))

include hx in
theorem even0 (t : Fin cfg0.N) (n : Fin 64) (i : Fin 8) (j : Fin 16) (k : Fin 256) :
    iblk0 V c 0 t (ix5 n i 0 j k) = ((h (t.val * 64 + n) (2 * i) j k : ℝ) : EReal) := by
  have ht := t.isLt.trans_eq N_0
  refine Eq.trans ?_ (hx ⟨t.val * 64 + n, by omega⟩ i 0 j k)
  blk_ext [iblk0, idx0 t]

include hx in
theorem odd0 (t : Fin cfg0.N) (n : Fin 64) (i : Fin 8) (j : Fin 16) (k : Fin 256) :
    iblk0 V c 1 t (ix5 n i 0 j k) = ((h (t.val * 64 + n) (2 * i + 1) j k : ℝ) : EReal) := by
  have ht := t.isLt.trans_eq N_0
  refine Eq.trans ?_ (hx ⟨t.val * 64 + n, by omega⟩ i 1 j k)
  blk_ext [iblk0, idx0 t]

include hw in
theorem upper0 (t : Fin cfg0.N) : IsWeight w 0 (View.ld (iblk0 V c 2 t)
    (Rect.unit ![0, 0, 0] ![1, 512, 256] inb_S2x512x256_S1x512x256_0_0_0)) := fun x o => by
  pointwise
  refine Eq.trans ?_ (hw 0 x o)
  blk_ext [iblk0, idx0 t]

include hw in
theorem lower0 (t : Fin cfg0.N) : IsWeight w 1 (View.ld (iblk0 V c 2 t)
    (Rect.unit ![1, 0, 0] ![1, 512, 256] inb_S2x512x256_S1x512x256_1_0_0)) := fun x o => by
  pointwise
  refine Eq.trans ?_ (hw 1 x o)
  blk_ext [iblk0, idx0 t]

include hx hw

theorem array0 (n : Fin 512) (i j : Fin 8) (o : Fin 256) :
    (dat0 V c).arrAt 6 cfg0.N (ix4 n i j o) = ((conv h w n i j o : ℝ) : EReal) := by
  have key : (dat0 V c).arrAt 6 cfg0.N
      = fun i => ((conv h w (i 0).val (i 1).val (i 2).val (i 3).val : ℝ) : EReal) := by
    refine (dat0 V c).arrAt_eq_of_covers 6 _ (by decide +kernel) fun t hf y => ?_
    blk_simp
    rw [after0_6]
    have ht := t.isLt.trans_eq N_0
    obtain ⟨a, p, q, b, rfl⟩ : ∃ a p q b, y = ix4 a p q b := ⟨y 0, y 1, y 2, y 3, by funext k; fin_cases k <;> rfl⟩
    have e := out0 (h := fun n => h (t.val * 64 + n)) (even0 hx t) (odd0 hx t) (upper0 hw t) (lower0 hw t) a p q b
    by_cases h0 : t.val % 8 = 0
    · rw [outsAt0_A V c t h0 (by omega)]
      frame_out
      exact e.trans (by simp [(idx0 t).2.2.2]; rfl)
    · rw [outsAt0_B V c t h0 (by omega)]
      frame_out
      exact e.trans (by simp [(idx0 t).2.2.2]; rfl)
  rw [key]; rfl

omit hx hw in
/-- The two channel sums after the run, as a sum over the blocks. -/
theorem stats0 (j : S2x256.Idx) : @Eq EReal ((dat0 V c).arrAt 7 cfg0.N j)
    (∑ t : Fin cfg0.N, k0_pay4 (F := Ideal) (iblk0 V c 0 t) (iblk0 V c 1 t)
        (View.ld (iblk0 V c 2 t) (Rect.unit ![0, 0, 0] ![1, 512, 256] inb_S2x512x256_S1x512x256_0_0_0))
        (View.ld (iblk0 V c 2 t) (Rect.unit ![1, 0, 0] ![1, 512, 256] inb_S2x512x256_S1x512x256_1_0_0)) j) := by
  have key : (dat0 V c).arrAt 7 cfg0.N = (outsAt0 V c t0_7.val t0_7.isLt).2 := by
    refine (dat0 V c).arrAt_eq_of_after_last 7 t0_7 (by decide +kernel) _ fun j => ?_
    blk_simp
    rw [after0_7]
  rw [key]
  refine (Pipeline.eq_sum_fin_of_reset_step_apply_last (fun n h => (outsAt0 V c n h).2) 8 (fun _ => 0)
    (fun t j => k0_pay4 (F := Ideal) (iblk0 V c 0 t) (iblk0 V c 1 t)
        (View.ld (iblk0 V c 2 t) (Rect.unit ![0, 0, 0] ![1, 512, 256] inb_S2x512x256_S1x512x256_0_0_0))
        (View.ld (iblk0 V c 2 t) (Rect.unit ![1, 0, 0] ![1, 512, 256] inb_S2x512x256_S1x512x256_1_0_0)) j)
    (fun t h0 j => by
      have ht := t.isLt.trans_eq N_0
      rw [outsAt0_A V c t h0 (by omega)]; frame_out; exact (zero_add _).symm)
    (fun t h0 j => by
      rw [outsAt0_B V c t h0 (by omega)]; frame_out; pointwise [k0_pay1]; rfl) (by decide) t0_7 rfl j).trans (zero_add _)

theorem arraySum0 (o : Fin 256) : @Eq EReal ((dat0 V c).arrAt 7 cfg0.N (ix2 0 o)) ((total 8 (conv h w) o : ℝ) : EReal) := by
  refine (stats0 _).trans (Eq.trans ?_ (total_blocks_coe cfg0.N 64 8 (by rw [show cfg0.N = 8 from N_0]) (conv h w) o).symm)
  exact Finset.sum_congr rfl fun t _ => sums0 (h := fun n => h (t.val * 64 + n))
    (even0 hx t) (odd0 hx t) (upper0 hw t) (lower0 hw t) o

theorem arraySquare0 (o : Fin 256) : @Eq EReal ((dat0 V c).arrAt 7 cfg0.N (ix2 1 o))
    ((total 8 (fun n i j o => conv h w n i j o * conv h w n i j o) o : ℝ) : EReal) := by
  refine (stats0 _).trans (Eq.trans ?_ (total_blocks_coe cfg0.N 64 8 (by rw [show cfg0.N = 8 from N_0])
    (fun n i j o => conv h w n i j o * conv h w n i j o) o).symm)
  exact Finset.sum_congr rfl fun t _ => squares0 (h := fun n => h (t.val * 64 + n))
    (even0 hx t) (odd0 hx t) (upper0 hw t) (lower0 hw t) o

end Cert.KernelIdeal.Value
-- ==== Proof.Value.Arr1.lean ====
/- What the second call leaves in its two result arrays. -/
module

public import proofs.«01_k».proof.Proof.Value.Pay
public import proofs.«01_k».proof.Proof.KernelIdealRun.Region1
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

section
variable (V : (c : Dev nD) → (b : Ref sig .tc) → Buf (Elt Ideal) ((c : Thread nD τ).loc b)) (c : Dev nD) (t : Fin cfg1.N)

/-- The two rows of the running sums, and the two rows of the weight table, as the call reads them. -/
abbrev sumRow1 : Vec Ideal S1x256 .f32 := View.ld (iblk1 V c 3 t) (Rect.unit ![0, 0] ![1, 256] inb_S2x256_S1x256_0_0)
abbrev squareRow1 : Vec Ideal S1x256 .f32 := View.ld (iblk1 V c 3 t) (Rect.unit ![1, 0] ![1, 256] inb_S2x256_S1x256_1_0)
abbrev upper1 : Vec Ideal S1x512x256 .bf16 :=
  View.ld (iblk1 V c 2 t) (Rect.unit ![0, 0, 0] ![1, 512, 256] inb_S2x512x256_S1x512x256_0_0_0)
abbrev lower1 : Vec Ideal S1x512x256 .bf16 :=
  View.ld (iblk1 V c 2 t) (Rect.unit ![1, 0, 0] ![1, 512, 256] inb_S2x512x256_S1x512x256_1_0_0)
/-- The scale, the shift and the two prepared row blocks. -/
abbrev scaleRow1 := k1_pay7 (sumRow1 V c t) (squareRow1 V c t) (iblk1 V c 4 t)
abbrev shiftRow1 := k1_pay8 (sumRow1 V c t) (squareRow1 V c t) (iblk1 V c 4 t) (iblk1 V c 5 t)
abbrev even1 := k1_pay9 (sumRow1 V c t) (squareRow1 V c t) (iblk1 V c 4 t) (iblk1 V c 5 t) (iblk1 V c 0 t)
abbrev odd1 := k1_pay10 (F := Ideal) (iblk1 V c 1 t)
/-- What the block adds to the running sums. -/
abbrev term1 (j : S2x256.Idx) : EReal :=
  k1_pay3 (scaleRow1 V c t) (shiftRow1 V c t) (even1 V c t) (odd1 V c t) (upper1 V c t) (lower1 V c t) j

end

variable {V : (c : Dev nD) → (b : Ref sig .tc) → Buf (Elt Ideal) ((c : Thread nD τ).loc b)} {c : Dev nD} {a w : Act} {g b : ℕ → ℝ}

/-- Which block each window holds at a point. -/
theorem idx1 : ∀ t : Fin cfg1.N, win1_0.index t = ![t.val, 0, 0, 0, 0] ∧ win1_1.index t = ![t.val, 0, 1, 0, 0]
    ∧ win1_2.index t = ![0, 0, 0] ∧ win1_3.index t = ![0, 0] ∧ win1_4.index t = ![0, 0] ∧ win1_5.index t = ![0, 0]
    ∧ win1_6.index t = ![t.val, 0, 0, 0] := by decide +kernel

variable (hx : ∀ (n : Fin 512) (i : Fin 4) (d : Fin 2) (j : Fin 8) (k : Fin 256),
    V c main_v32 (ix5 n i d j k) = ((a n (2 * i + d) j k : ℝ) : EReal))
  (hw : ∀ (d : Fin 2) (x : Fin 512) (o : Fin 256), V c main_v9 (ix3 d x o) = ((w o (x % 256) d (x / 256) : ℝ) : EReal))
  (hs : ∀ o : Fin 256, V c main_v25_1 (ix2 0 o) = ((total 8 a o : ℝ) : EReal))
  (hq : ∀ o : Fin 256, V c main_v25_1 (ix2 1 o) = ((total 8 (fun n i j o => a n i j o * a n i j o) o : ℝ) : EReal))
  (hg : IsRow g (V c main_v28)) (hb : IsRow b (V c main_v31))

include hx in
theorem evenBlock1 (t : Fin cfg1.N) (n : Fin 128) (i : Fin 4) (j : Fin 8) (k : Fin 256) :
    iblk1 V c 0 t (ix5 n i 0 j k) = ((a (t.val * 128 + n) (2 * i) j k : ℝ) : EReal) := by
  have ht := t.isLt.trans_eq N_1
  refine Eq.trans ?_ ((hx ⟨t.val * 128 + n, by omega⟩ i 0 j k).trans (by simp))
  blk_ext [iblk1, idx1 t]

include hx in
theorem oddBlock1 (t : Fin cfg1.N) (n : Fin 128) (i : Fin 4) (j : Fin 8) (k : Fin 256) :
    iblk1 V c 1 t (ix5 n i 0 j k) = ((a (t.val * 128 + n) (2 * i + 1) j k : ℝ) : EReal) := by
  have ht := t.isLt.trans_eq N_1
  refine Eq.trans ?_ ((hx ⟨t.val * 128 + n, by omega⟩ i 1 j k).trans (by simp))
  blk_ext [iblk1, idx1 t]

include hw in
theorem isWeight1 (t : Fin cfg1.N) : IsWeight w 0 (upper1 V c t) ∧ IsWeight w 1 (lower1 V c t) := by
  refine ⟨fun x o => ?_, fun x o => ?_⟩ <;> pointwise [upper1, lower1]
  · refine Eq.trans ?_ (hw 0 x o)
    blk_ext [iblk1, idx1 t]
  · refine Eq.trans ?_ (hw 1 x o)
    blk_ext [iblk1, idx1 t]

include hs hq hg in
theorem isScale1 (t : Fin cfg1.N) : IsRow (scale 8 g a) (scaleRow1 V c t) := by
  refine scale1 (fun o => ?_) (fun o => ?_) (fun o => ?_) <;> try pointwise [sumRow1, squareRow1]
  · refine Eq.trans ?_ (hs o); blk_ext [iblk1, idx1 t]
  · refine Eq.trans ?_ (hq o); blk_ext [iblk1, idx1 t]
  · refine Eq.trans ?_ (hg o); blk_ext [iblk1, idx1 t]

include hs hq hg hb in
theorem isShift1 (t : Fin cfg1.N) : IsRow (shift 8 g b a) (shiftRow1 V c t) := by
  refine shift1 (fun o => ?_) (fun o => ?_) (fun o => ?_) (fun o => ?_) <;> try pointwise [sumRow1, squareRow1]
  · refine Eq.trans ?_ (hs o); blk_ext [iblk1, idx1 t]
  · refine Eq.trans ?_ (hq o); blk_ext [iblk1, idx1 t]
  · refine Eq.trans ?_ (hg o); blk_ext [iblk1, idx1 t]
  · refine Eq.trans ?_ (hb o); blk_ext [iblk1, idx1 t]

include hx hw hs hq hg hb

set_option maxHeartbeats 2000000 in
theorem array1 (n : Fin 512) (i j : Fin 4) (o : Fin 256) :
    (dat1 V c).arrAt 6 cfg1.N (ix4 n i j o) = ((conv (norm 8 g b a) w n i j o : ℝ) : EReal) := by
  have key : (dat1 V c).arrAt 6 cfg1.N
      = fun i => ((conv (norm 8 g b a) w (i 0).val (i 1).val (i 2).val (i 3).val : ℝ) : EReal) := by
    refine (dat1 V c).arrAt_eq_of_covers 6 _ (by decide +kernel) fun t hf y => ?_
    blk_simp
    rw [after1_6]
    have ht := t.isLt.trans_eq N_1
    obtain ⟨p, q, r, s, rfl⟩ : ∃ p q r s, y = ix4 p q r s := ⟨y 0, y 1, y 2, y 3, by funext k; fin_cases k <;> rfl⟩
    have e := out1 (a := fun n => a (t.val * 128 + n)) (evenBlock1 hx t) (oddBlock1 hx t) (isWeight1 hw t).1
      (isWeight1 hw t).2 (isScale1 hs hq hg t) (isShift1 hs hq hg hb t) p q r s
    rw [← through_norm 8 g b a]
    by_cases h0 : t.val % 4 = 0
    · rw [outsAt1_A V c t h0 (by omega)]
      frame_out
      exact e.trans (by simp [(idx1 t).2.2.2.2.2.2]; rfl)
    · rw [outsAt1_B V c t h0 (by omega)]
      frame_out
      exact e.trans (by simp [(idx1 t).2.2.2.2.2.2]; rfl)
  rw [key]; rfl

omit hx hw hs hq hg hb in
/-- The two channel sums after the run, as a sum over the blocks. -/
theorem stats1 (j : S2x256.Idx) : @Eq EReal ((dat1 V c).arrAt 7 cfg1.N j) (∑ t : Fin cfg1.N, term1 V c t j) := by
  have key : (dat1 V c).arrAt 7 cfg1.N = (outsAt1 V c t1_3.val t1_3.isLt).2 := by
    refine (dat1 V c).arrAt_eq_of_after_last 7 t1_3 (by decide +kernel) _ fun j => ?_
    blk_simp
    rw [after1_7]
  rw [key]
  refine (Pipeline.eq_sum_fin_of_reset_step_apply_last (fun n h => (outsAt1 V c n h).2) 4 (fun _ => 0) (term1 V c)
    (fun t h0 j => by
      have ht := t.isLt.trans_eq N_1
      rw [outsAt1_A V c t h0 (by omega)]; frame_out; exact (zero_add _).symm)
    (fun t h0 j => by
      rw [outsAt1_B V c t h0 (by omega)]; frame_out; pointwise [k1_pay4]; rfl) (by decide) t1_3 rfl j).trans (zero_add _)

theorem arraySum1 (o : Fin 256) :
    @Eq EReal ((dat1 V c).arrAt 7 cfg1.N (ix2 0 o)) ((total 4 (conv (norm 8 g b a) w) o : ℝ) : EReal) := by
  rw [← through_norm 8 g b a]
  refine (stats1 _).trans (Eq.trans ?_ (total_blocks_coe cfg1.N 128 4 (by rw [show cfg1.N = 4 from N_1]) _ o).symm)
  exact Finset.sum_congr rfl fun t _ => (sums1 (a := fun n => a (t.val * 128 + n)) (evenBlock1 hx t) (oddBlock1 hx t)
    (isWeight1 hw t).1 (isWeight1 hw t).2 (isScale1 hs hq hg t) (isShift1 hs hq hg hb t) o)

theorem arraySquare1 (o : Fin 256) : @Eq EReal ((dat1 V c).arrAt 7 cfg1.N (ix2 1 o))
    ((total 4 (fun n i j o => conv (norm 8 g b a) w n i j o * conv (norm 8 g b a) w n i j o) o : ℝ) : EReal) := by
  rw [← through_norm 8 g b a]
  refine (stats1 _).trans (Eq.trans ?_ (total_blocks_coe cfg1.N 128 4 (by rw [show cfg1.N = 4 from N_1]) _ o).symm)
  exact Finset.sum_congr rfl fun t _ => (squares1 (a := fun n => a (t.val * 128 + n)) (evenBlock1 hx t) (oddBlock1 hx t)
    (isWeight1 hw t).1 (isWeight1 hw t).2 (isScale1 hs hq hg t) (isShift1 hs hq hg hb t) o)

end Cert.KernelIdeal.Value
-- ==== Proof.Value.Arr2.lean ====
/- What the third call leaves in its two result arrays. -/
module

public import proofs.«01_k».proof.Proof.Value.Pay
public import proofs.«01_k».proof.Proof.KernelIdealRun.Region2
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

section
variable (V : (c : Dev nD) → (b : Ref sig .tc) → Buf (Elt Ideal) ((c : Thread nD τ).loc b)) (c : Dev nD) (t : Fin cfg2.N)

/-- The two rows of the running sums, and the two rows of the weight table, as the call reads them. -/
abbrev sumRow2 : Vec Ideal S1x256 .f32 := View.ld (iblk2 V c 3 t) (Rect.unit ![0, 0] ![1, 256] inb_S2x256_S1x256_0_0)
abbrev squareRow2 : Vec Ideal S1x256 .f32 := View.ld (iblk2 V c 3 t) (Rect.unit ![1, 0] ![1, 256] inb_S2x256_S1x256_1_0)
abbrev upper2 : Vec Ideal S1x512x256 .bf16 :=
  View.ld (iblk2 V c 2 t) (Rect.unit ![0, 0, 0] ![1, 512, 256] inb_S2x512x256_S1x512x256_0_0_0)
abbrev lower2 : Vec Ideal S1x512x256 .bf16 :=
  View.ld (iblk2 V c 2 t) (Rect.unit ![1, 0, 0] ![1, 512, 256] inb_S2x512x256_S1x512x256_1_0_0)
/-- The scale, the shift and the two prepared row blocks. -/
abbrev scaleRow2 := k2_pay7 (sumRow2 V c t) (squareRow2 V c t) (iblk2 V c 4 t)
abbrev shiftRow2 := k2_pay8 (sumRow2 V c t) (squareRow2 V c t) (iblk2 V c 4 t) (iblk2 V c 5 t)
abbrev even2 := k2_pay9 (sumRow2 V c t) (squareRow2 V c t) (iblk2 V c 4 t) (iblk2 V c 5 t) (iblk2 V c 0 t)
abbrev odd2 := k2_pay10 (F := Ideal) (iblk2 V c 1 t)
/-- What the block adds to the running sums. -/
abbrev term2 (j : S2x256.Idx) : EReal :=
  k2_pay3 (scaleRow2 V c t) (shiftRow2 V c t) (even2 V c t) (odd2 V c t) (upper2 V c t) (lower2 V c t) j

end

variable {V : (c : Dev nD) → (b : Ref sig .tc) → Buf (Elt Ideal) ((c : Thread nD τ).loc b)} {c : Dev nD} {a w : Act} {g b : ℕ → ℝ}

/-- Which block each window holds at a point. -/
theorem idx2 : ∀ t : Fin cfg2.N, win2_0.index t = ![t.val, 0, 0, 0, 0] ∧ win2_1.index t = ![t.val, 0, 1, 0, 0]
    ∧ win2_2.index t = ![0, 0, 0] ∧ win2_3.index t = ![0, 0] ∧ win2_4.index t = ![0, 0] ∧ win2_5.index t = ![0, 0]
    ∧ win2_6.index t = ![t.val, 0, 0, 0] := by decide +kernel

variable (hx : ∀ (n : Fin 512) (i : Fin 2) (d : Fin 2) (j : Fin 4) (k : Fin 256),
    V c main_v40 (ix5 n i d j k) = ((a n (2 * i + d) j k : ℝ) : EReal))
  (hw : ∀ (d : Fin 2) (x : Fin 512) (o : Fin 256), V c main_v14 (ix3 d x o) = ((w o (x % 256) d (x / 256) : ℝ) : EReal))
  (hs : ∀ o : Fin 256, V c main_v33_1 (ix2 0 o) = ((total 4 a o : ℝ) : EReal))
  (hq : ∀ o : Fin 256, V c main_v33_1 (ix2 1 o) = ((total 4 (fun n i j o => a n i j o * a n i j o) o : ℝ) : EReal))
  (hg : IsRow g (V c main_v36)) (hb : IsRow b (V c main_v39))

include hx in
theorem evenBlock2 (t : Fin cfg2.N) (n : Fin 512) (i : Fin 2) (j : Fin 4) (k : Fin 256) :
    iblk2 V c 0 t (ix5 n i 0 j k) = ((a (t.val * 512 + n) (2 * i) j k : ℝ) : EReal) := by
  have ht := t.isLt.trans_eq N_2
  refine Eq.trans ?_ ((hx ⟨t.val * 512 + n, by omega⟩ i 0 j k).trans (by simp))
  blk_ext [iblk2, idx2 t]

include hx in
theorem oddBlock2 (t : Fin cfg2.N) (n : Fin 512) (i : Fin 2) (j : Fin 4) (k : Fin 256) :
    iblk2 V c 1 t (ix5 n i 0 j k) = ((a (t.val * 512 + n) (2 * i + 1) j k : ℝ) : EReal) := by
  have ht := t.isLt.trans_eq N_2
  refine Eq.trans ?_ ((hx ⟨t.val * 512 + n, by omega⟩ i 1 j k).trans (by simp))
  blk_ext [iblk2, idx2 t]

include hw in
theorem isWeight2 (t : Fin cfg2.N) : IsWeight w 0 (upper2 V c t) ∧ IsWeight w 1 (lower2 V c t) := by
  refine ⟨fun x o => ?_, fun x o => ?_⟩ <;> pointwise [upper2, lower2]
  · refine Eq.trans ?_ (hw 0 x o)
    blk_ext [iblk2, idx2 t]
  · refine Eq.trans ?_ (hw 1 x o)
    blk_ext [iblk2, idx2 t]

include hs hq hg in
theorem isScale2 (t : Fin cfg2.N) : IsRow (scale 4 g a) (scaleRow2 V c t) := by
  refine scale2 (fun o => ?_) (fun o => ?_) (fun o => ?_) <;> try pointwise [sumRow2, squareRow2]
  · refine Eq.trans ?_ (hs o); blk_ext [iblk2, idx2 t]
  · refine Eq.trans ?_ (hq o); blk_ext [iblk2, idx2 t]
  · refine Eq.trans ?_ (hg o); blk_ext [iblk2, idx2 t]

include hs hq hg hb in
theorem isShift2 (t : Fin cfg2.N) : IsRow (shift 4 g b a) (shiftRow2 V c t) := by
  refine shift2 (fun o => ?_) (fun o => ?_) (fun o => ?_) (fun o => ?_) <;> try pointwise [sumRow2, squareRow2]
  · refine Eq.trans ?_ (hs o); blk_ext [iblk2, idx2 t]
  · refine Eq.trans ?_ (hq o); blk_ext [iblk2, idx2 t]
  · refine Eq.trans ?_ (hg o); blk_ext [iblk2, idx2 t]
  · refine Eq.trans ?_ (hb o); blk_ext [iblk2, idx2 t]

include hx hw hs hq hg hb

theorem array2 (n : Fin 512) (i j : Fin 2) (o : Fin 256) :
    (dat2 V c).arrAt 6 cfg2.N (ix4 n i j o) = ((conv (norm 4 g b a) w n i j o : ℝ) : EReal) := by
  have key : (dat2 V c).arrAt 6 cfg2.N
      = fun i => ((conv (norm 4 g b a) w (i 0).val (i 1).val (i 2).val (i 3).val : ℝ) : EReal) := by
    refine (dat2 V c).arrAt_eq_of_covers 6 _ (by decide +kernel) fun t hf y => ?_
    blk_simp
    rw [after2_6]
    have ht := t.isLt.trans_eq N_2
    obtain ⟨p, q, r, s, rfl⟩ : ∃ p q r s, y = ix4 p q r s := ⟨y 0, y 1, y 2, y 3, by funext k; fin_cases k <;> rfl⟩
    have e := out2 (a := fun n => a (t.val * 512 + n)) (evenBlock2 hx t) (oddBlock2 hx t) (isWeight2 hw t).1
      (isWeight2 hw t).2 (isScale2 hs hq hg t) (isShift2 hs hq hg hb t) p q r s
    rw [← through_norm 4 g b a]
    unfold outsAt2
    frame_out
    exact e.trans (by simp [(idx2 t).2.2.2.2.2.2])
  rw [key]; rfl

omit hx hw hs hq hg hb in
/-- The two channel sums after the run, as a sum over the blocks. -/
theorem stats2 (j : S2x256.Idx) : @Eq EReal ((dat2 V c).arrAt 7 cfg2.N j) (∑ t : Fin cfg2.N, term2 V c t j) := by
  have key : (dat2 V c).arrAt 7 cfg2.N = (outsAt2 V c t2_0).2 := by
    refine (dat2 V c).arrAt_eq_of_after_last 7 t2_0 (by decide +kernel) _ fun j => ?_
    blk_simp
    rw [after2_7]
  rw [key]
  refine Eq.trans (b := term2 V c t2_0 j) ?_ (Fin.sum_univ_one fun t : Fin 1 => term2 V c t j).symm
  unfold outsAt2
  frame_out
  rfl

theorem arraySum2 (o : Fin 256) :
    @Eq EReal ((dat2 V c).arrAt 7 cfg2.N (ix2 0 o)) ((total 2 (conv (norm 4 g b a) w) o : ℝ) : EReal) := by
  rw [← through_norm 4 g b a]
  refine (stats2 _).trans (Eq.trans ?_ (total_blocks_coe cfg2.N 512 2 (by rw [show cfg2.N = 1 from N_2]) _ o).symm)
  exact Finset.sum_congr rfl fun t _ => (sums2 (a := fun n => a (t.val * 512 + n)) (evenBlock2 hx t) (oddBlock2 hx t)
    (isWeight2 hw t).1 (isWeight2 hw t).2 (isScale2 hs hq hg t) (isShift2 hs hq hg hb t) o)

theorem arraySquare2 (o : Fin 256) : @Eq EReal ((dat2 V c).arrAt 7 cfg2.N (ix2 1 o))
    ((total 2 (fun n i j o => conv (norm 4 g b a) w n i j o * conv (norm 4 g b a) w n i j o) o : ℝ) : EReal) := by
  rw [← through_norm 4 g b a]
  refine (stats2 _).trans (Eq.trans ?_ (total_blocks_coe cfg2.N 512 2 (by rw [show cfg2.N = 1 from N_2]) _ o).symm)
  exact Finset.sum_congr rfl fun t _ => (squares2 (a := fun n => a (t.val * 512 + n)) (evenBlock2 hx t) (oddBlock2 hx t)
    (isWeight2 hw t).1 (isWeight2 hw t).2 (isScale2 hs hq hg t) (isShift2 hs hq hg hb t) o)

end Cert.KernelIdeal.Value
-- ==== Proof.Value.Arr3.lean ====
/- What the fourth call leaves in its two result arrays. -/
module

public import proofs.«01_k».proof.Proof.Value.Pay
public import proofs.«01_k».proof.Proof.KernelIdealRun.Region3
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

section
variable (V : (c : Dev nD) → (b : Ref sig .tc) → Buf (Elt Ideal) ((c : Thread nD τ).loc b)) (c : Dev nD) (t : Fin cfg3.N)

/-- The two rows of the running sums, and the two rows of the weight table, as the call reads them. -/
abbrev sumRow3 : Vec Ideal S1x256 .f32 := View.ld (iblk3 V c 3 t) (Rect.unit ![0, 0] ![1, 256] inb_S2x256_S1x256_0_0)
abbrev squareRow3 : Vec Ideal S1x256 .f32 := View.ld (iblk3 V c 3 t) (Rect.unit ![1, 0] ![1, 256] inb_S2x256_S1x256_1_0)
abbrev upper3 : Vec Ideal S1x512x256 .bf16 :=
  View.ld (iblk3 V c 2 t) (Rect.unit ![0, 0, 0] ![1, 512, 256] inb_S2x512x256_S1x512x256_0_0_0)
abbrev lower3 : Vec Ideal S1x512x256 .bf16 :=
  View.ld (iblk3 V c 2 t) (Rect.unit ![1, 0, 0] ![1, 512, 256] inb_S2x512x256_S1x512x256_1_0_0)
/-- The scale, the shift and the two prepared row blocks. -/
abbrev scaleRow3 := k3_pay7 (sumRow3 V c t) (squareRow3 V c t) (iblk3 V c 4 t)
abbrev shiftRow3 := k3_pay8 (sumRow3 V c t) (squareRow3 V c t) (iblk3 V c 4 t) (iblk3 V c 5 t)
abbrev even3 := k3_pay9 (sumRow3 V c t) (squareRow3 V c t) (iblk3 V c 4 t) (iblk3 V c 5 t) (iblk3 V c 0 t)
abbrev odd3 := k3_pay10 (F := Ideal) (iblk3 V c 1 t)
/-- What the block adds to the running sums. -/
abbrev term3 (j : S2x256.Idx) : EReal :=
  k3_pay3 (scaleRow3 V c t) (shiftRow3 V c t) (even3 V c t) (odd3 V c t) (upper3 V c t) (lower3 V c t) j

end

variable {V : (c : Dev nD) → (b : Ref sig .tc) → Buf (Elt Ideal) ((c : Thread nD τ).loc b)} {c : Dev nD} {a w : Act} {g b : ℕ → ℝ}

/-- Which block each window holds at a point. -/
theorem idx3 : ∀ t : Fin cfg3.N, win3_0.index t = ![t.val, 0, 0, 0, 0] ∧ win3_1.index t = ![t.val, 0, 1, 0, 0]
    ∧ win3_2.index t = ![0, 0, 0] ∧ win3_3.index t = ![0, 0] ∧ win3_4.index t = ![0, 0] ∧ win3_5.index t = ![0, 0]
    ∧ win3_6.index t = ![t.val, 0, 0, 0] := by decide +kernel

variable (hx : ∀ (n : Fin 512) (i : Fin 1) (d : Fin 2) (j : Fin 2) (k : Fin 256),
    V c main_v48 (ix5 n i d j k) = ((a n (2 * i + d) j k : ℝ) : EReal))
  (hw : ∀ (d : Fin 2) (x : Fin 512) (o : Fin 256), V c main_v19 (ix3 d x o) = ((w o (x % 256) d (x / 256) : ℝ) : EReal))
  (hs : ∀ o : Fin 256, V c main_v41_1 (ix2 0 o) = ((total 2 a o : ℝ) : EReal))
  (hq : ∀ o : Fin 256, V c main_v41_1 (ix2 1 o) = ((total 2 (fun n i j o => a n i j o * a n i j o) o : ℝ) : EReal))
  (hg : IsRow g (V c main_v44)) (hb : IsRow b (V c main_v47))

include hx in
theorem evenBlock3 (t : Fin cfg3.N) (n : Fin 512) (i : Fin 1) (j : Fin 2) (k : Fin 256) :
    iblk3 V c 0 t (ix5 n i 0 j k) = ((a (t.val * 512 + n) (2 * i) j k : ℝ) : EReal) := by
  have ht := t.isLt.trans_eq N_3
  refine Eq.trans ?_ ((hx ⟨t.val * 512 + n, by omega⟩ i 0 j k).trans (by simp))
  blk_ext [iblk3, idx3 t]

include hx in
theorem oddBlock3 (t : Fin cfg3.N) (n : Fin 512) (i : Fin 1) (j : Fin 2) (k : Fin 256) :
    iblk3 V c 1 t (ix5 n i 0 j k) = ((a (t.val * 512 + n) (2 * i + 1) j k : ℝ) : EReal) := by
  have ht := t.isLt.trans_eq N_3
  refine Eq.trans ?_ ((hx ⟨t.val * 512 + n, by omega⟩ i 1 j k).trans (by simp))
  blk_ext [iblk3, idx3 t]

include hw in
theorem isWeight3 (t : Fin cfg3.N) : IsWeight w 0 (upper3 V c t) ∧ IsWeight w 1 (lower3 V c t) := by
  refine ⟨fun x o => ?_, fun x o => ?_⟩ <;> pointwise [upper3, lower3]
  · refine Eq.trans ?_ (hw 0 x o)
    blk_ext [iblk3, idx3 t]
  · refine Eq.trans ?_ (hw 1 x o)
    blk_ext [iblk3, idx3 t]

include hs hq hg in
theorem isScale3 (t : Fin cfg3.N) : IsRow (scale 2 g a) (scaleRow3 V c t) := by
  refine scale3 (fun o => ?_) (fun o => ?_) (fun o => ?_) <;> try pointwise [sumRow3, squareRow3]
  · refine Eq.trans ?_ (hs o); blk_ext [iblk3, idx3 t]
  · refine Eq.trans ?_ (hq o); blk_ext [iblk3, idx3 t]
  · refine Eq.trans ?_ (hg o); blk_ext [iblk3, idx3 t]

include hs hq hg hb in
theorem isShift3 (t : Fin cfg3.N) : IsRow (shift 2 g b a) (shiftRow3 V c t) := by
  refine shift3 (fun o => ?_) (fun o => ?_) (fun o => ?_) (fun o => ?_) <;> try pointwise [sumRow3, squareRow3]
  · refine Eq.trans ?_ (hs o); blk_ext [iblk3, idx3 t]
  · refine Eq.trans ?_ (hq o); blk_ext [iblk3, idx3 t]
  · refine Eq.trans ?_ (hg o); blk_ext [iblk3, idx3 t]
  · refine Eq.trans ?_ (hb o); blk_ext [iblk3, idx3 t]

include hx hw hs hq hg hb

theorem array3 (n : Fin 512) (i j : Fin 1) (o : Fin 256) :
    (dat3 V c).arrAt 6 cfg3.N (ix4 n i j o) = ((conv (norm 2 g b a) w n i j o : ℝ) : EReal) := by
  have key : (dat3 V c).arrAt 6 cfg3.N
      = fun i => ((conv (norm 2 g b a) w (i 0).val (i 1).val (i 2).val (i 3).val : ℝ) : EReal) := by
    refine (dat3 V c).arrAt_eq_of_covers 6 _ (by decide +kernel) fun t hf y => ?_
    blk_simp
    rw [after3_6]
    have ht := t.isLt.trans_eq N_3
    obtain ⟨p, q, r, s, rfl⟩ : ∃ p q r s, y = ix4 p q r s := ⟨y 0, y 1, y 2, y 3, by funext k; fin_cases k <;> rfl⟩
    have e := out3 (a := fun n => a (t.val * 512 + n)) (evenBlock3 hx t) (oddBlock3 hx t) (isWeight3 hw t).1
      (isWeight3 hw t).2 (isScale3 hs hq hg t) (isShift3 hs hq hg hb t) p q r s
    rw [← through_norm 2 g b a]
    unfold outsAt3
    frame_out
    exact e.trans (by simp [(idx3 t).2.2.2.2.2.2])
  rw [key]; rfl

omit hx hw hs hq hg hb in
/-- The two channel sums after the run, as a sum over the blocks. -/
theorem stats3 (j : S2x256.Idx) : @Eq EReal ((dat3 V c).arrAt 7 cfg3.N j) (∑ t : Fin cfg3.N, term3 V c t j) := by
  have key : (dat3 V c).arrAt 7 cfg3.N = (outsAt3 V c t3_0).2 := by
    refine (dat3 V c).arrAt_eq_of_after_last 7 t3_0 (by decide +kernel) _ fun j => ?_
    blk_simp
    rw [after3_7]
  rw [key]
  refine Eq.trans (b := term3 V c t3_0 j) ?_ (Fin.sum_univ_one fun t : Fin 1 => term3 V c t j).symm
  unfold outsAt3
  frame_out
  rfl

theorem arraySum3 (o : Fin 256) :
    @Eq EReal ((dat3 V c).arrAt 7 cfg3.N (ix2 0 o)) ((total 1 (conv (norm 2 g b a) w) o : ℝ) : EReal) := by
  rw [← through_norm 2 g b a]
  refine (stats3 _).trans (Eq.trans ?_ (total_blocks_coe cfg3.N 512 1 (by rw [show cfg3.N = 1 from N_3]) _ o).symm)
  exact Finset.sum_congr rfl fun t _ => (sums3 (a := fun n => a (t.val * 512 + n)) (evenBlock3 hx t) (oddBlock3 hx t)
    (isWeight3 hw t).1 (isWeight3 hw t).2 (isScale3 hs hq hg t) (isShift3 hs hq hg hb t) o)

theorem arraySquare3 (o : Fin 256) : @Eq EReal ((dat3 V c).arrAt 7 cfg3.N (ix2 1 o))
    ((total 1 (fun n i j o => conv (norm 2 g b a) w n i j o * conv (norm 2 g b a) w n i j o) o : ℝ) : EReal) := by
  rw [← through_norm 2 g b a]
  refine (stats3 _).trans (Eq.trans ?_ (total_blocks_coe cfg3.N 512 1 (by rw [show cfg3.N = 1 from N_3]) _ o).symm)
  exact Finset.sum_congr rfl fun t _ => (squares3 (a := fun n => a (t.val * 512 + n)) (evenBlock3 hx t) (oddBlock3 hx t)
    (isWeight3 hw t).1 (isWeight3 hw t).2 (isScale3 hs hq hg t) (isShift3 hs hq hg hb t) o)

end Cert.KernelIdeal.Value
-- ==== Proof.Value.TopTwo.lean ====
/- The greatest and the second greatest entry of a row, the earlier place first among equals. -/
module

public import Idealize.ShloMosaic.Lib.SortFacts
public import Mathlib.Data.Real.Basic

@[expose] public section

namespace Cert.Value

open Idealize.ShloMosaic

variable {n : ℕ}

/-- Place `a` comes before place `b`: its entry is greater, or they are equal and `a` is the earlier place. -/
def Beats (y : Fin n → ℝ) (a b : Fin n) : Prop := y b < y a ∨ (y b = y a ∧ a < b)

/-- Place `i` comes before every other. -/
def First (y : Fin n → ℝ) (i : Fin n) : Prop := ∀ k, k ≠ i → Beats y i k

/-- Place `j` comes before every other but `i`. -/
def Second (y : Fin n → ℝ) (i j : Fin n) : Prop := j ≠ i ∧ ∀ k, k ≠ i → k ≠ j → Beats y j k

theorem Beats.le {y : Fin n → ℝ} {a b : Fin n} (h : Beats y a b) : y b ≤ y a := h.elim le_of_lt fun h => h.1.le

theorem First.le {y : Fin n → ℝ} {i : Fin n} (h : First y i) (k : Fin n) : y k ≤ y i := by
  by_cases e : k = i
  · rw [e]
  · exact (h k e).le

theorem Second.le {y : Fin n → ℝ} {i j : Fin n} (h : Second y i j) (k : Fin n) (hk : k ≠ i) : y k ≤ y j := by
  by_cases e : k = j
  · rw [e]
  · exact (h.2 k hk e).le

/-- Inserting an earlier place into a sorted list keeps it sorted. -/
theorem pairwise_insert (y : Fin n → ℝ) (before : Fin n → Fin n → Bool) (hb : ∀ a b, before a b = true ↔ y b < y a)
    (a : Fin n) (l : List (Fin n)) (hl : l.Pairwise (Beats y)) (ha : ∀ b ∈ l, a < b) :
    (insertBefore before a l).Pairwise (Beats y) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore before a l).mem_iff.mp hc) with rfl | hc'
      · exact Or.inl ((hb _ _).mp h)
      · exact hl.1 c hc'
    · rename_i h
      have hle : y b ≤ y a := not_lt.mp fun e => h ((hb _ _).mpr e)
      have key : ∀ c, y c ≤ y b → c ∈ b :: l → Beats y a c := fun c hc hm =>
        (lt_or_eq_of_le (hc.trans hle)).elim Or.inl fun e => Or.inr ⟨e, ha c hm⟩
      refine List.pairwise_cons.mpr ⟨fun c hc => ?_, List.pairwise_cons.mpr hl⟩
      rcases List.mem_cons.mp hc with rfl | hc'
      · exact key _ le_rfl hc
      · exact key c (hl.1 c hc').le hc

theorem pairwise_sort (y : Fin n → ℝ) (before : Fin n → Fin n → Bool) (hb : ∀ a b, before a b = true ↔ y b < y a)
    (l : List (Fin n)) (hl : l.Pairwise (· < ·)) : (stableSort before l).Pairwise (Beats y) := by
  induction l with
  | nil => exact List.Pairwise.nil
  | cons a l ih =>
    rw [List.pairwise_cons] at hl
    unfold stableSort
    exact pairwise_insert y before hb a _ (ih hl.2) fun b hm => hl.1 b ((perm_stableSort before l).mem_iff.mp hm)

theorem sorted_beats (y : Fin n → ℝ) (before : Fin n → Fin n → Bool) (hb : ∀ a b, before a b = true ↔ y b < y a)
    (i j : Fin n) (hij : i < j) : Beats y (sortedFrom before i) (sortedFrom before j) := by
  have hp : ∀ a b : Fin (sortPositions n before).length, a < b →
      Beats y ((sortPositions n before).get a) ((sortPositions n before).get b) :=
    List.pairwise_iff_get.mp (pairwise_sort y before hb (List.finRange n) (List.pairwise_lt_finRange n))
  unfold sortedFrom
  exact hp _ _ (by simp only [Fin.lt_def, Fin.val_cast]; exact hij)

/-- The first sorted place. -/
theorem sorted_first (y : Fin (n + 2) → ℝ) (before : Fin (n + 2) → Fin (n + 2) → Bool)
    (hb : ∀ a b, before a b = true ↔ y b < y a) : First y (sortedFrom before 0) := fun k hk => by
  obtain ⟨m, rfl⟩ := sortedFrom_surjective before k
  exact sorted_beats y before hb 0 m (Fin.pos_of_ne_zero fun e => hk (by rw [e]))

/-- The second sorted place. -/
theorem sorted_second (y : Fin (n + 2) → ℝ) (before : Fin (n + 2) → Fin (n + 2) → Bool)
    (hb : ∀ a b, before a b = true ↔ y b < y a) : Second y (sortedFrom before 0) (sortedFrom before 1) := by
  refine ⟨fun e => ?_, fun k hk hk' => ?_⟩
  · exact absurd (sortedFrom_injective before e) (by simp)
  obtain ⟨m, rfl⟩ := sortedFrom_surjective before k
  refine sorted_beats y before hb 1 m ?_
  have h0 : m ≠ 0 := fun e => hk (by rw [e])
  have h1 : m ≠ 1 := fun e => hk' (by rw [e])
  have h0' : m.val ≠ 0 := fun e => h0 (Fin.ext e)
  have h1' : m.val ≠ 1 := fun e => h1 (Fin.ext e)
  show 1 < m.val
  omega

/-- The places of a row from the greatest entry down. -/
noncomputable def order (y : Fin (n + 2) → ℝ) : Fin (n + 2) → Fin (n + 2) :=
  sortedFrom fun a b => decide (y b < y a)

theorem order_first (y : Fin (n + 2) → ℝ) : First y (order y 0) := sorted_first y _ fun _ _ => decide_eq_true_iff

theorem order_second (y : Fin (n + 2) → ℝ) : Second y (order y 0) (order y 1) := sorted_second y _ fun _ _ => decide_eq_true_iff

/-- A comparison that agrees with the order of the entries sorts the places in the same way. -/
theorem order_of (y : Fin (n + 2) → ℝ) (before : Fin (n + 2) → Fin (n + 2) → Bool) (hb : ∀ a b, before a b = true ↔ y b < y a) :
    sortedFrom before = order y := by
  unfold order
  congr 1
  funext a b
  exact Bool.eq_iff_iff.mpr ((hb a b).trans decide_eq_true_iff.symm)

/-! ## Folds that keep one entry -/

section Fold
variable {ι α : Type*} (op : α → α → α) [Std.Commutative op] [Std.Associative op]

theorem op_fold (v b : α) (f : ι → α) (s : Finset ι) (hb : op v b = v) (h : ∀ k ∈ s, op v (f k) = v) : op v (s.fold op b f) = v := by
  classical
  induction s using Finset.induction_on with
  | empty => simpa using hb
  | insert a s ha ih =>
    rw [Finset.fold_insert ha, ← Std.Associative.assoc (op := op), h a (Finset.mem_insert_self _ _)]
    exact ih fun k hk => h k (Finset.mem_insert_of_mem hk)

/-- A fold in which one entry absorbs all others is that entry. -/
theorem fold_eq (b : α) (f : ι → α) (s : Finset ι) (i : ι) (hi : i ∈ s) (hb : op (f i) b = f i)
    (h : ∀ k ∈ s, k ≠ i → op (f i) (f k) = f i) : s.fold op b f = f i := by
  classical
  rw [← Finset.insert_erase hi, Finset.fold_insert (Finset.notMem_erase _ _)]
  exact op_fold op (f i) b f _ hb fun k hk => h k (Finset.mem_of_mem_erase hk) (Finset.ne_of_mem_erase hk)

end Fold

end Cert.Value
-- ==== Proof.Value.HeadPay.lean ====
/- What the head's body computes, entry by entry. -/
module

public import proofs.«01_k».proof.Proof.Value.Pay
public import proofs.«01_k».proof.Proof.Value.Head
public import proofs.«01_k».proof.Proof.Value.TopTwo

@[expose] public section

set_option maxRecDepth 16384

noncomputable section

namespace Cert.KernelIdeal.Value

open Cert.KernelIdeal Cert.KernelIdeal.Gen Cert.Value
open Idealize.ShloMosaic Idealize.ShloMosaic.TcCoe Idealize.ShloMosaic.Tactic Idealize.ShloMosaic.Pointwise

/-! ## The linear map -/

theorem mapped {a : Act} {g b : ℕ → ℝ} {fw : ℕ → ℕ → ℝ} {fb : ℕ → ℝ} {v0 v2 v4 v6 v32 : Vec Ideal S1x256 .f32}
    {v20 : Vec Ideal S512x256 .bf16} {v29 : Vec Ideal S256x256 .f32}
    (hS : IsRow (total 1 a) v0) (hQ : IsRow (total 1 fun n i j o => a n i j o * a n i j o) v2) (hG : IsRow g v4)
    (hB : IsRow b v6) (hX : ∀ (t : Fin 512) (k : Fin 256), v20 (ix2 t k) = ((a t 0 0 k : ℝ) : EReal))
    (hW : ∀ k f : Fin 256, v29 (ix2 k f) = ((fw f k : ℝ) : EReal)) (hb : IsRow fb v32) (t : Fin 512) (f : Fin 256) :
    k4_pay3 v0 v2 v4 v6 v20 v29 v32 (ix2 t f) = ((fuse fw fb (norm 1 g b a) t f : ℝ) : EReal) := by
  pointwise [k4_pay3, word_512]
  refine fuse_coe fw fb _ _ f _ _ (fun k => ?_) (fun k => hW k f) (hb f)
  have hc : ((512 : ℝ) : EReal) = ((count 1 : ℝ) : EReal) := congrArg _ (by norm_num [Cert.Value.count])
  rw [shift_coe (by decide) g b a k (hS k) (hQ k) (hG k) (hB k) hc, scale_coe (by decide) g a k (hS k) (hQ k) (hG k) hc, hX,
    norm_affine]
  exact relu_coe _ _ _

/-! ## The weights -/

section Weights
variable {C S F wg : ℕ → ℕ → ℝ} {v35 : FVec Ideal S512x256 .f32} {v37 v39 : Vec Ideal S256x512 .f32}
  {v50 : Vec Ideal S256x14 .f32} {v53 : Vec Ideal S8x256 .f32}
  (hF : ∀ (t : Fin 512) (f : Fin 256), v35 (ix2 t f) = ((F t f : ℝ) : EReal))
  (hC : ∀ (r : Fin 256) (t : Fin 512), v37 (ix2 r t) = if r.val / 32 = t.val / 64 then ((C (r % 32) (t % 64) : ℝ) : EReal) else 0)
  (hS : ∀ (r : Fin 256) (t : Fin 512), v39 (ix2 r t) = if r.val / 32 = t.val / 64 then ((S (r % 32) (t % 64) : ℝ) : EReal) else 0)
  (hW : ∀ (r : Fin 256) (e : Fin 14), v50 (ix2 r e) = ((wg (r % 32) e : ℝ) : EReal))
  (hP : ∀ (p : Fin 8) (r : Fin 256), v53 (ix2 p r) = if r.val / 32 = p.val then 1 else 0)

/-- The body's weights of the experts. -/
abbrev rows4 (v35 : FVec Ideal S512x256 .f32) (v37 v39 : Vec Ideal S256x512 .f32) (v50 : Vec Ideal S256x14 .f32)
    (v53 : Vec Ideal S8x256 .f32) := k4_pay5 v35 v37 (constant S256x256 .f32 0x00000000#32) v39 v50 v53

include hF hC hS hW hP
theorem weights4 (p : Fin 8) (e : Fin 14) :
    rows4 v35 v37 v39 v50 v53 (ix2 p e) = ((weight C S F wg p e : ℝ) : EReal) := by
  pointwise [rows4, k4_pay5, word_256th]
  exact weight_rows_coe C S F wg p e p.isLt _ _ _ (fun r f => _)
    (fun r f => power_coe C S F (r / 32) f (r % 32)
      (dft_block_coe C F (r / 32) f (r % 32) (by omega) _ _ (fun t => hC r t) fun t => hF t f)
      (dft_block_coe S F (r / 32) f (r % 32) (by omega) _ _ (fun t => hS r t) fun t => hF t f))
    (fun r => hP p r) (fun r => hW r e) fun r => rfl

end Weights

/-! ## The two greatest weights of a group -/

theorem word_bot : Ideal.ofBits .f32 0xFF800000#32 = ⊥ := by simp [Ideal.ofBits, Ideal.ieee]

theorem min_end : ∀ i : Fin 14, IntOp.minsi (BitVec.ofNat 32 i) 2147483647#32 = BitVec.ofNat 32 i := by decide
theorem min_fill : ∀ i : Fin 14, IntOp.minsi (BitVec.ofNat 32 i) 1073741824#32 = BitVec.ofNat 32 i := by decide
theorem min_later : ∀ i k : Fin 14, i < k → IntOp.minsi (BitVec.ofNat 32 i) (BitVec.ofNat 32 k) = BitVec.ofNat 32 i := by decide
theorem place_eq : ∀ i k : Fin 14, IntOp.cmpi .eq (BitVec.ofNat 32 i) (BitVec.ofNat 32 k) = if i = k then 1#1 else 0#1 := by decide

/-- The least of the places that hold a value. -/
theorem least_place (P : Fin 14 → Prop) [DecidablePred P] (i : Fin 14) (hi : P i) (h : ∀ k, P k → k ≠ i → i < k) :
    (Finset.univ : Finset (Fin 14)).fold IntOp.minsi 2147483647#32 (fun k => if P k then BitVec.ofNat 32 k else 1073741824#32)
      = BitVec.ofNat 32 i := by
  have e : (if P i then BitVec.ofNat 32 i else 1073741824#32) = BitVec.ofNat 32 i := if_pos hi
  refine (fold_eq IntOp.minsi _ _ _ i (Finset.mem_univ _) ?_ fun k _ hk => ?_).trans e
  · rw [e]; exact min_end i
  · rw [e]
    split
    · rename_i hp; exact min_later i k (h k hp hk)
    · exact min_fill i

section Top
variable {v35 : FVec Ideal S512x256 .f32} {v37 v39 : Vec Ideal S256x512 .f32}
  {v50 : Vec Ideal S256x14 .f32} {v53 : Vec Ideal S8x256 .f32} {y : Fin 14 → ℝ} {p : Fin 8}
  (hy : ∀ e : Fin 14, rows4 v35 v37 v39 v50 v53 (ix2 p e) = ((y e : ℝ) : EReal)) {i j : Fin 14} (h1 : First y i) (h2 : Second y i j)

include hy h1

theorem greatest : k4_pay6 v35 v37 (constant S256x256 .f32 0x00000000#32) v39 v50 v53 (ix2 p 0) = ((y i : ℝ) : EReal) := by
  pointwise [k4_pay6, word_bot]
  refine (Finset.fold_congr fun k _ => hy k).trans ?_
  exact fold_eq max _ _ _ i (Finset.mem_univ _) (max_eq_left bot_le) fun k _ _ => max_eq_left (EReal.coe_le_coe_iff.mpr (h1.le k))

theorem greatestPlace : k4_pay7 v35 v37 (constant S256x256 .f32 0x00000000#32) v39 v50 v53 (ix2 p 0) = BitVec.ofNat 32 i := by
  pointwise [k4_pay7]
  rw [greatest hy h1]
  refine least_place _ i (hy i) fun k hk hne => ?_
  have e : y k = y i := EReal.coe_injective ((hy k).symm.trans hk)
  rcases h1 k hne with h | h
  · exact absurd e h.ne
  · exact h.2

theorem others (e : Fin 14) :
    k4_pay8 v35 v37 (constant S256x256 .f32 0x00000000#32) v39 v50 v53 (ix2 p e) = if e = i then ⊥ else ((y e : ℝ) : EReal) := by
  pointwise [k4_pay8, word_bot]
  rw [greatestPlace hy h1, place_eq]
  split
  · rfl
  · exact hy e

include h2

theorem second : k4_pay9 v35 v37 (constant S256x256 .f32 0x00000000#32) v39 v50 v53 (ix2 p 0) = ((y j : ℝ) : EReal) := by
  pointwise [k4_pay9, word_bot]
  refine (Finset.fold_congr fun k _ => others hy h1 k).trans ?_
  have e : (if j = i then ⊥ else ((y j : ℝ) : EReal)) = ((y j : ℝ) : EReal) := if_neg h2.1
  refine (fold_eq max _ _ _ j (Finset.mem_univ _) (max_eq_left bot_le) fun k _ _ => ?_).trans e
  rw [e]
  split
  · exact max_eq_left bot_le
  · rename_i hk; exact max_eq_left (EReal.coe_le_coe_iff.mpr (h2.le k hk))

theorem secondPlace : k4_pay10 v35 v37 (constant S256x256 .f32 0x00000000#32) v39 v50 v53 (ix2 p 0) = BitVec.ofNat 32 j := by
  pointwise [k4_pay10]
  rw [second hy h1 h2]
  refine least_place _ j ((others hy h1 j).trans (if_neg h2.1)) fun k hk hne => ?_
  replace hk := (others hy h1 k).symm.trans hk
  by_cases hki : k = i
  · rw [if_pos hki] at hk; exact absurd hk (EReal.bot_ne_coe _)
  rw [if_neg hki] at hk
  rcases h2.2 k hki hne with h | h
  · exact absurd (EReal.coe_injective hk) h.ne
  · exact h.2

theorem ratio : k4_pay11 v35 v37 (constant S256x256 .f32 0x00000000#32) v39 v50 v53 (ix2 p 0)
    = ((Real.exp (y j - y i) : ℝ) : EReal) := by
  pointwise [k4_pay11]
  rw [second hy h1 h2, greatest hy h1, ← EReal.coe_sub]
  rfl

theorem denominator : k4_pay12 v35 v37 (constant S256x256 .f32 0x00000000#32) v39 v50 v53 (ix2 p 0)
    = ((1 + Real.exp (y j - y i) : ℝ) : EReal) := by
  pointwise [k4_pay12]
  rw [ratio hy h1 h2]
  rfl

theorem gates (e : Fin 14) : k4_pay1 (iota .tc S8x14 32 [1] iota_S8x14_d1_w32)
    (k4_pay7 v35 v37 (constant S256x256 .f32 0x00000000#32) v39 v50 v53)
    (k4_pay10 v35 v37 (constant S256x256 .f32 0x00000000#32) v39 v50 v53)
    (k4_pay11 v35 v37 (constant S256x256 .f32 0x00000000#32) v39 v50 v53)
    (k4_pay12 v35 v37 (constant S256x256 .f32 0x00000000#32) v39 v50 v53) (ix2 p e) = ((gate y i j e : ℝ) : EReal) := by
  have hz : (1 + Real.exp (y j - y i)) ≠ 0 := (add_pos one_pos (Real.exp_pos _)).ne'
  pointwise [k4_pay1]
  rw [greatestPlace hy h1, secondPlace hy h1 h2, ratio hy h1 h2, denominator hy h1 h2, place_eq, place_eq, div_coe hz,
    ← EReal.coe_one, div_coe hz]
  unfold gate
  by_cases hi : e = i
  · rw [if_pos hi, if_pos hi]; rfl
  rw [if_neg hi, if_neg hi]
  by_cases hj : e = j
  · rw [if_pos hj, if_pos hj]; rfl
  · rw [if_neg hj, if_neg hj]; rfl

end Top

/-- How many groups send something to expert `e`, as a word. -/
theorem loads {v55 : IVec S8x14 32} {a b : IVec S8x1 32} {c d : FVec Ideal S8x1 .f32} {G : Fin 8 → Fin 14 → ℝ}
    (hG : ∀ p e, k4_pay1 v55 a b c d (ix2 p e) = ((G p e : ℝ) : EReal)) (e : Fin 14) :
    k4_pay2 v55 a b c d (ix2 0 e) = sent G e := by
  pointwise [k4_pay2]
  unfold sent
  refine Finset.fold_congr fun p _ => ?_
  refine congrArg (fun b => BitVec.setWidth 32 (BitVec.ofBool b)) (decide_eq_decide.mpr ?_)
  exact (iff_of_eq (congrArg (fun x : EReal => 0 < x) (hG p e))).trans EReal.coe_pos

end Cert.KernelIdeal.Value
-- ==== Proof.Value.Arr4.lean ====
/- What the last call leaves in its two result arrays. -/
module

public import proofs.«01_k».proof.Proof.Value.HeadPay
public import proofs.«01_k».proof.Proof.KernelIdealRun.Region4
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

variable {V : (c : Dev nD) → (b : Ref sig .tc) → Buf (Elt Ideal) ((c : Thread nD τ).loc b)} {c : Dev nD} {a : Act}
  {g b fb : ℕ → ℝ} {fw C S wg : ℕ → ℕ → ℝ}

/-- Each window holds its whole array. -/
theorem idx4 : ∀ t : Fin cfg4.N, win4_0.index t = ![0, 0] ∧ win4_1.index t = ![0, 0] ∧ win4_2.index t = ![0, 0]
    ∧ win4_3.index t = ![0, 0] ∧ win4_4.index t = ![0, 0] ∧ win4_5.index t = ![0, 0] ∧ win4_6.index t = ![0, 0]
    ∧ win4_7.index t = ![0, 0] ∧ win4_8.index t = ![0, 0] ∧ win4_9.index t = ![0, 0] := by decide +kernel

variable (hx : ∀ (t : Fin 512) (k : Fin 256), V c main_v72 (ix2 t k) = ((a t 0 0 k : ℝ) : EReal))
  (hs : ∀ o : Fin 256, V c main_v49_1 (ix2 0 o) = ((total 1 a o : ℝ) : EReal))
  (hq : ∀ o : Fin 256, V c main_v49_1 (ix2 1 o) = ((total 1 (fun n i j o => a n i j o * a n i j o) o : ℝ) : EReal))
  (hg : IsRow g (V c main_v75)) (hb : IsRow b (V c main_v78))
  (hfw : ∀ k f : Fin 256, V c main_v79 (ix2 k f) = ((fw f k : ℝ) : EReal)) (hfb : IsRow fb (V c main_v80))
  (hC : ∀ (r : Fin 256) (t : Fin 512), @Eq EReal (V c main_v62 (ix2 r t))
    (if r.val / 32 = t.val / 64 then ((C (r % 32) (t % 64) : ℝ) : EReal) else 0))
  (hS : ∀ (r : Fin 256) (t : Fin 512), @Eq EReal (V c main_v68 (ix2 r t))
    (if r.val / 32 = t.val / 64 then ((S (r % 32) (t % 64) : ℝ) : EReal) else 0))
  (hW : ∀ (r : Fin 256) (e : Fin 14), V c main_v71 (ix2 r e) = ((wg (r % 32) e : ℝ) : EReal))
  (hP : ∀ (p : Fin 8) (r : Fin 256), @Eq EReal (V c main_cst_1 (ix2 p r)) (if r.val / 32 = p.val then 1 else 0))

include hx hs hq hg hb hfw hfb in
set_option maxHeartbeats 2000000 in
theorem mapped4 (t : Fin cfg4.N) (r : Fin 512) (f : Fin 256) :
    k4_pay14 (iblk4 V c 0 t) (iblk4 V c 1 t) (iblk4 V c 2 t) (iblk4 V c 3 t) (iblk4 V c 4 t) (iblk4 V c 5 t) (iblk4 V c 6 t)
      (iblk4 V c 7 t) (iblk4 V c 8 t) (iblk4 V c 9 t) (ix2 r f) = ((fuse fw fb (norm 1 g b a) r f : ℝ) : EReal) := by
  refine mapped (fun o => ?_) (fun o => ?_) (fun o => ?_) (fun o => ?_) (fun r k => ?_) (fun k f => ?_) (fun o => ?_) r f <;>
    pointwise
  · refine Eq.trans ?_ (hs o); blk_ext [iblk4, (idx4 t).2.1]
  · refine Eq.trans ?_ (hq o); blk_ext [iblk4, (idx4 t).2.1]
  · refine Eq.trans ?_ (hg o); blk_ext [iblk4, (idx4 t).2.2.1]
  · refine Eq.trans ?_ (hb o); blk_ext [iblk4, (idx4 t).2.2.2.1]
  · refine Eq.trans ?_ (hx r k); blk_ext [iblk4, (idx4 t).1]
  · refine Eq.trans ?_ (hfw k f); blk_ext [iblk4, (idx4 t).2.2.2.2.1]
  · refine Eq.trans ?_ (hfb o); blk_ext [iblk4, (idx4 t).2.2.2.2.2.1]

include hx hs hq hg hb hfw hfb hC hS hW hP

set_option maxHeartbeats 2000000 in
theorem weighed4 (t : Fin cfg4.N) (p : Fin 8) (e : Fin 14) :
    rows4 (k4_pay14 (iblk4 V c 0 t) (iblk4 V c 1 t) (iblk4 V c 2 t) (iblk4 V c 3 t) (iblk4 V c 4 t) (iblk4 V c 5 t) (iblk4 V c 6 t)
      (iblk4 V c 7 t) (iblk4 V c 8 t) (iblk4 V c 9 t)) (k4_pay4 (View.ld (iblk4 V c 6 t) r4_5)) (View.ld (iblk4 V c 7 t) r4_5)
      (View.ld (iblk4 V c 8 t) r4_6) (View.ld (iblk4 V c 9 t) r4_7) (ix2 p e)
      = ((weight C S (fuse fw fb (norm 1 g b a)) wg p e : ℝ) : EReal) := by
  refine weights4 (mapped4 hx hs hq hg hb hfw hfb t) (fun r u => ?_) (fun r u => ?_) (fun r e => ?_) (fun p r => ?_) p e <;>
    pointwise [k4_pay4]
  · refine Eq.trans ?_ (hC r u); blk_ext [iblk4, (idx4 t).2.2.2.2.2.2.1]
  · refine Eq.trans ?_ (hS r u); blk_ext [iblk4, (idx4 t).2.2.2.2.2.2.2.1]
  · refine Eq.trans ?_ (hW r e); blk_ext [iblk4, (idx4 t).2.2.2.2.2.2.2.2.1]
  · refine Eq.trans ?_ (hP p r); blk_ext [iblk4, (idx4 t).2.2.2.2.2.2.2.2.2]

variable {i j : Fin 8 → Fin 14} (h1 : ∀ p : Fin 8, First (fun e : Fin 14 => weight C S (fuse fw fb (norm 1 g b a)) wg p e) (i p))
  (h2 : ∀ p : Fin 8, Second (fun e : Fin 14 => weight C S (fuse fw fb (norm 1 g b a)) wg p e) (i p) (j p))

include h1 h2

theorem array4 (p : Fin 8) (e : Fin 14) : @Eq EReal ((dat4 V c).arrAt 10 cfg4.N (ix2 p e))
    ((gate (fun e : Fin 14 => weight C S (fuse fw fb (norm 1 g b a)) wg p e) (i p) (j p) e : ℝ) : EReal) := by
  have key : (dat4 V c).arrAt 10 cfg4.N = out4_10 (iblk4 V c 0 t4_0) (iblk4 V c 1 t4_0) (iblk4 V c 2 t4_0) (iblk4 V c 3 t4_0)
      (iblk4 V c 4 t4_0) (iblk4 V c 5 t4_0) (iblk4 V c 6 t4_0) (iblk4 V c 7 t4_0) (iblk4 V c 8 t4_0) (iblk4 V c 9 t4_0) := by
    refine (dat4 V c).arrAt_eq_of_after_last 10 t4_0 (by decide +kernel) _ fun j => ?_
    blk_simp
    rw [after4_10]
  rw [key]
  refine Eq.trans ?_ (gates (weighed4 hx hs hq hg hb hfw hfb hC hS hW hP t4_0 p) (h1 p) (h2 p) e)
  unfold out4_10
  frame_out
  rfl

theorem load4 (e : Fin 14) : @Eq (BitVec 32) ((dat4 V c).arrAt 11 cfg4.N (ix2 0 e))
    (sent (fun p e => gate (fun e : Fin 14 => weight C S (fuse fw fb (norm 1 g b a)) wg p.val e) (i p) (j p) e) e) := by
  have key : (dat4 V c).arrAt 11 cfg4.N = out4_11 (iblk4 V c 0 t4_0) (iblk4 V c 1 t4_0) (iblk4 V c 2 t4_0) (iblk4 V c 3 t4_0)
      (iblk4 V c 4 t4_0) (iblk4 V c 5 t4_0) (iblk4 V c 6 t4_0) (iblk4 V c 7 t4_0) (iblk4 V c 8 t4_0) (iblk4 V c 9 t4_0) := by
    refine (dat4 V c).arrAt_eq_of_after_last 11 t4_0 (by decide +kernel) _ fun j => ?_
    blk_simp
    rw [after4_11]
  rw [key]
  refine Eq.trans ?_ (loads (fun p e => gates (weighed4 hx hs hq hg hb hfw hfb hC hS hW hP t4_0 p) (h1 p) (h2 p) e) e)
  unfold out4_11
  frame_out
  rfl

end Cert.KernelIdeal.Value
-- ==== Proof.Value.KernelNet.lean ====
/- The kernel's arrays, call after call, as the real function of its arguments. -/
module

public import proofs.«01_k».proof.Proof.Value.Net
public import proofs.«01_k».proof.Proof.Value.Entry
public import proofs.«01_k».proof.Proof.Value.Arr0
public import proofs.«01_k».proof.Proof.Value.Arr1
public import proofs.«01_k».proof.Proof.Value.Arr2
public import proofs.«01_k».proof.Proof.Value.Arr3
public import proofs.«01_k».proof.Proof.Value.Arr4
public import proofs.«01_k».proof.Proof.KernelIdealRun.Fold0

@[expose] public section

set_option maxRecDepth 16384

noncomputable section

namespace Cert.KernelIdeal.Value

open Cert.KernelIdeal Cert.KernelIdeal.Gen Cert.KernelIdeal.Whole Cert.Value
open Idealize.ShloMosaic Idealize.ShloMosaic.TcCoe Idealize.ShloMosaic.Tactic Idealize.ShloMosaic.Pointwise
open Idealize.ShloMosaic.Pipeline

variable {m : (ℓ : Loc nD τ sig) → Buf (Elt Ideal) ℓ} {ρ : Dev nD → PrngReg} {c : Dev nD} {P : Params}

/-- The argument `a` on the core. -/
abbrev arg (m : (ℓ : Loc nD τ sig) → Buf (Elt Ideal) ℓ) (c : Dev nD) (a : Ref sig .tc) := m ((c : Thread nD τ).loc a)

variable (hI : ∀ (p : Fin 8) (t : Fin 64) (i j : Fin 16) (k : Fin 256),
      arg m c main_arg0 (ix6 p t 0 i j k) = ((P.images (64 * p + t) i j k : ℝ) : EReal))
  (hw : ∀ (L : Fin 4) (o k : Fin 256) (d e : Fin 2), arg m c main_arg2 (ix5 L o k d e) = ((P.filter L o k d e : ℝ) : EReal))
  (hg : ∀ (L : Fin 4) (o : Fin 256), arg m c main_arg4 (ix2 L o) = ((P.gain L o : ℝ) : EReal))
  (hb : ∀ (L : Fin 4) (o : Fin 256), arg m c main_arg5 (ix2 L o) = ((P.offset L o : ℝ) : EReal))
  (hf : ∀ f k : Fin 256, arg m c main_arg6 (ix2 f k) = ((P.map f k : ℝ) : EReal))
  (hv : ∀ f : Fin 256, arg m c main_arg7 (ix1 f) = ((P.bias f : ℝ) : EReal))
  (hr : ∀ (k : Fin 32) (e : Fin 14), arg m c main_arg8 (ix2 k e) = ((P.router k e : ℝ) : EReal))

/-- An argument's entry after any stretch is the argument's at the start. -/
theorem keep {a : Ref sig .tc} {W : Valuation τ sig (Elt Ideal)} (h : W (Proc.devRef .tc a) = arg m c a) (i) :
    W (Proc.devRef .tc a) i = arg m c a i := congrFun h i

/-! ## The first call -/

include hI in
theorem images1 (n : Fin 512) (i : Fin 8) (d : Fin 2) (j : Fin 16) (k : Fin 256) :
    V1 m ρ c main_v24 (ix5 n i d j k) = ((P.images n (2 * i + d) j k : ℝ) : EReal) :=
  (entry_images _ n i d j k).trans ((keep (W0_args m ρ c main_arg0 (by decide)) _).trans ((hI _ _ _ _ _).trans
    (by simp only [Nat.div_add_mod, Nat.mul_comm])))

include hw in
theorem filter1 (d : Fin 2) (x : Fin 512) (o : Fin 256) :
    V1 m ρ c main_v4 (ix3 d x o) = ((P.filter 0 o (x % 256) d (x / 256) : ℝ) : EReal) :=
  (entry_weights0 _ d x o).trans ((keep (W0_args m ρ c main_arg2 (by decide)) _).trans (hw 0 o _ d _))

include hI hw in
theorem call1 : (∀ (n : Fin 512) (i j : Fin 8) (o : Fin 256),
      W2 m ρ c (Proc.devRef .tc main_v25_0) (ix4 n i j o) = ((P.first n i j o : ℝ) : EReal))
    ∧ (∀ o : Fin 256, W2 m ρ c (Proc.devRef .tc main_v25_1) (ix2 0 o) = ((total 8 P.first o : ℝ) : EReal))
    ∧ (∀ o : Fin 256, W2 m ρ c (Proc.devRef .tc main_v25_1) (ix2 1 o)
      = ((total 8 (fun n i j o => P.first n i j o * P.first n i j o) o : ℝ) : EReal)) :=
  ⟨fun n i j o => (congrFun (W2_arr m ρ c 6) _).trans (array0 (images1 hI) (filter1 hw) n i j o),
    fun o => (congrFun (W2_arr m ρ c 7) _).trans (arraySum0 (images1 hI) (filter1 hw) o),
    fun o => (congrFun (W2_arr m ρ c 7) _).trans (arraySquare0 (images1 hI) (filter1 hw) o)⟩

/-! ## The second call -/

theorem filter2 (hw : ∀ (L : Fin 4) (o k : Fin 256) (d e : Fin 2), arg m c main_arg2 (ix5 L o k d e) = ((P.filter L o k d e : ℝ) : EReal))
    (d : Fin 2) (x : Fin 512) (o : Fin 256) :
    V3 m ρ c main_v9 (ix3 d x o) = ((P.filter 1 o (x % 256) d (x / 256) : ℝ) : EReal) :=
  (congrFun ((W3_of m ρ c main_v9 (by decide)).trans (W2_of m ρ c main_v9 (by decide))) _).trans
    ((entry_weights1 _ d x o).trans ((keep (W0_args m ρ c main_arg2 (by decide)) _).trans (hw 1 o _ d _)))

theorem gain2 (hg : ∀ (L : Fin 4) (o : Fin 256), arg m c main_arg4 (ix2 L o) = ((P.gain L o : ℝ) : EReal)) :
    IsRow (P.gain 0) (V3 m ρ c main_v28) := fun o =>
  (entry_gain1 _ o).trans ((keep (W2_args m ρ c main_arg4 (by decide)) _).trans (hg 0 o))

theorem offset2 (hb : ∀ (L : Fin 4) (o : Fin 256), arg m c main_arg5 (ix2 L o) = ((P.offset L o : ℝ) : EReal)) :
    IsRow (P.offset 0) (V3 m ρ c main_v31) := fun o =>
  (entry_offset1 _ o).trans ((keep (W2_args m ρ c main_arg5 (by decide)) _).trans (hb 0 o))

include hI hw hg hb in
theorem call2 : (∀ (n : Fin 512) (i j : Fin 4) (o : Fin 256),
      W4 m ρ c (Proc.devRef .tc main_v33_0) (ix4 n i j o) = ((P.second n i j o : ℝ) : EReal))
    ∧ (∀ o : Fin 256, W4 m ρ c (Proc.devRef .tc main_v33_1) (ix2 0 o) = ((total 4 P.second o : ℝ) : EReal))
    ∧ (∀ o : Fin 256, W4 m ρ c (Proc.devRef .tc main_v33_1) (ix2 1 o)
      = ((total 4 (fun n i j o => P.second n i j o * P.second n i j o) o : ℝ) : EReal)) := by
  obtain ⟨hx, hs, hq⟩ := call1 (ρ := ρ) hI hw
  have hx' : ∀ (n : Fin 512) (i : Fin 4) (d : Fin 2) (j : Fin 8) (k : Fin 256),
      V3 m ρ c main_v32 (ix5 n i d j k) = ((P.first n (2 * i + d) j k : ℝ) : EReal) := fun n i d j k =>
    (entry_rows1 _ n i d j k).trans ((hx n ⟨i * 2 + d, by omega⟩ j k).trans (by simp only [Nat.mul_comm]))
  have hs' : ∀ o : Fin 256, V3 m ρ c main_v25_1 (ix2 0 o) = ((total 8 P.first o : ℝ) : EReal) := fun o =>
    (congrFun (W3_of m ρ c main_v25_1 (by decide)) _).trans (hs o)
  have hq' : ∀ o : Fin 256, V3 m ρ c main_v25_1 (ix2 1 o)
      = ((total 8 (fun n i j o => P.first n i j o * P.first n i j o) o : ℝ) : EReal) := fun o =>
    (congrFun (W3_of m ρ c main_v25_1 (by decide)) _).trans (hq o)
  exact ⟨fun n i j o => (congrFun (W4_arr m ρ c 6) _).trans (array1 hx' (filter2 hw) hs' hq' (gain2 hg) (offset2 hb) n i j o),
    fun o => (congrFun (W4_arr m ρ c 7) _).trans (arraySum1 hx' (filter2 hw) hs' hq' (gain2 hg) (offset2 hb) o),
    fun o => (congrFun (W4_arr m ρ c 7) _).trans (arraySquare1 hx' (filter2 hw) hs' hq' (gain2 hg) (offset2 hb) o)⟩

/-! ## The third call -/

theorem filter3 (hw : ∀ (L : Fin 4) (o k : Fin 256) (d e : Fin 2), arg m c main_arg2 (ix5 L o k d e) = ((P.filter L o k d e : ℝ) : EReal))
    (d : Fin 2) (x : Fin 512) (o : Fin 256) :
    V5 m ρ c main_v14 (ix3 d x o) = ((P.filter 2 o (x % 256) d (x / 256) : ℝ) : EReal) :=
  (congrFun ((W5_of m ρ c main_v14 (by decide)).trans ((W4_of m ρ c main_v14 (by decide)).trans ((W3_of m ρ c main_v14 (by decide)).trans (W2_of m ρ c main_v14 (by decide))))) _).trans
    ((entry_weights2 _ d x o).trans ((keep (W0_args m ρ c main_arg2 (by decide)) _).trans (hw 2 o _ d _)))

theorem gain3 (hg : ∀ (L : Fin 4) (o : Fin 256), arg m c main_arg4 (ix2 L o) = ((P.gain L o : ℝ) : EReal)) :
    IsRow (P.gain 1) (V5 m ρ c main_v36) := fun o =>
  (entry_gain2 _ o).trans ((keep (W4_args m ρ c main_arg4 (by decide)) _).trans (hg 1 o))

theorem offset3 (hb : ∀ (L : Fin 4) (o : Fin 256), arg m c main_arg5 (ix2 L o) = ((P.offset L o : ℝ) : EReal)) :
    IsRow (P.offset 1) (V5 m ρ c main_v39) := fun o =>
  (entry_offset2 _ o).trans ((keep (W4_args m ρ c main_arg5 (by decide)) _).trans (hb 1 o))

include hI hw hg hb in
theorem call3 : (∀ (n : Fin 512) (i j : Fin 2) (o : Fin 256),
      W6 m ρ c (Proc.devRef .tc main_v41_0) (ix4 n i j o) = ((P.third n i j o : ℝ) : EReal))
    ∧ (∀ o : Fin 256, W6 m ρ c (Proc.devRef .tc main_v41_1) (ix2 0 o) = ((total 2 P.third o : ℝ) : EReal))
    ∧ (∀ o : Fin 256, W6 m ρ c (Proc.devRef .tc main_v41_1) (ix2 1 o)
      = ((total 2 (fun n i j o => P.third n i j o * P.third n i j o) o : ℝ) : EReal)) := by
  obtain ⟨hx, hs, hq⟩ := call2 (ρ := ρ) hI hw hg hb
  have hx' : ∀ (n : Fin 512) (i : Fin 2) (d : Fin 2) (j : Fin 4) (k : Fin 256),
      V5 m ρ c main_v40 (ix5 n i d j k) = ((P.second n (2 * i + d) j k : ℝ) : EReal) := fun n i d j k =>
    (entry_rows2 _ n i d j k).trans ((hx n ⟨i * 2 + d, by omega⟩ j k).trans (by simp only [Nat.mul_comm]))
  have hs' : ∀ o : Fin 256, V5 m ρ c main_v33_1 (ix2 0 o) = ((total 4 P.second o : ℝ) : EReal) := fun o =>
    (congrFun (W5_of m ρ c main_v33_1 (by decide)) _).trans (hs o)
  have hq' : ∀ o : Fin 256, V5 m ρ c main_v33_1 (ix2 1 o)
      = ((total 4 (fun n i j o => P.second n i j o * P.second n i j o) o : ℝ) : EReal) := fun o =>
    (congrFun (W5_of m ρ c main_v33_1 (by decide)) _).trans (hq o)
  exact ⟨fun n i j o => (congrFun (W6_arr m ρ c 6) _).trans (array2 hx' (filter3 hw) hs' hq' (gain3 hg) (offset3 hb) n i j o),
    fun o => (congrFun (W6_arr m ρ c 7) _).trans (arraySum2 hx' (filter3 hw) hs' hq' (gain3 hg) (offset3 hb) o),
    fun o => (congrFun (W6_arr m ρ c 7) _).trans (arraySquare2 hx' (filter3 hw) hs' hq' (gain3 hg) (offset3 hb) o)⟩

/-! ## The fourth call -/

theorem filter4 (hw : ∀ (L : Fin 4) (o k : Fin 256) (d e : Fin 2), arg m c main_arg2 (ix5 L o k d e) = ((P.filter L o k d e : ℝ) : EReal))
    (d : Fin 2) (x : Fin 512) (o : Fin 256) :
    V7 m ρ c main_v19 (ix3 d x o) = ((P.filter 3 o (x % 256) d (x / 256) : ℝ) : EReal) :=
  (congrFun ((W7_of m ρ c main_v19 (by decide)).trans ((W6_of m ρ c main_v19 (by decide)).trans ((W5_of m ρ c main_v19 (by decide)).trans ((W4_of m ρ c main_v19 (by decide)).trans ((W3_of m ρ c main_v19 (by decide)).trans (W2_of m ρ c main_v19 (by decide))))))) _).trans
    ((entry_weights3 _ d x o).trans ((keep (W0_args m ρ c main_arg2 (by decide)) _).trans (hw 3 o _ d _)))

theorem gain4 (hg : ∀ (L : Fin 4) (o : Fin 256), arg m c main_arg4 (ix2 L o) = ((P.gain L o : ℝ) : EReal)) :
    IsRow (P.gain 2) (V7 m ρ c main_v44) := fun o =>
  (entry_gain3 _ o).trans ((keep (W6_args m ρ c main_arg4 (by decide)) _).trans (hg 2 o))

theorem offset4 (hb : ∀ (L : Fin 4) (o : Fin 256), arg m c main_arg5 (ix2 L o) = ((P.offset L o : ℝ) : EReal)) :
    IsRow (P.offset 2) (V7 m ρ c main_v47) := fun o =>
  (entry_offset3 _ o).trans ((keep (W6_args m ρ c main_arg5 (by decide)) _).trans (hb 2 o))

include hI hw hg hb in
theorem call4 : (∀ (n : Fin 512) (i j : Fin 1) (o : Fin 256),
      W8 m ρ c (Proc.devRef .tc main_v49_0) (ix4 n i j o) = ((P.fourth n i j o : ℝ) : EReal))
    ∧ (∀ o : Fin 256, W8 m ρ c (Proc.devRef .tc main_v49_1) (ix2 0 o) = ((total 1 P.fourth o : ℝ) : EReal))
    ∧ (∀ o : Fin 256, W8 m ρ c (Proc.devRef .tc main_v49_1) (ix2 1 o)
      = ((total 1 (fun n i j o => P.fourth n i j o * P.fourth n i j o) o : ℝ) : EReal)) := by
  obtain ⟨hx, hs, hq⟩ := call3 (ρ := ρ) hI hw hg hb
  have hx' : ∀ (n : Fin 512) (i : Fin 1) (d : Fin 2) (j : Fin 2) (k : Fin 256),
      V7 m ρ c main_v48 (ix5 n i d j k) = ((P.third n (2 * i + d) j k : ℝ) : EReal) := fun n i d j k =>
    (entry_rows3 _ n i d j k).trans ((hx n ⟨i * 2 + d, by omega⟩ j k).trans (by simp only [Nat.mul_comm]))
  have hs' : ∀ o : Fin 256, V7 m ρ c main_v41_1 (ix2 0 o) = ((total 2 P.third o : ℝ) : EReal) := fun o =>
    (congrFun (W7_of m ρ c main_v41_1 (by decide)) _).trans (hs o)
  have hq' : ∀ o : Fin 256, V7 m ρ c main_v41_1 (ix2 1 o)
      = ((total 2 (fun n i j o => P.third n i j o * P.third n i j o) o : ℝ) : EReal) := fun o =>
    (congrFun (W7_of m ρ c main_v41_1 (by decide)) _).trans (hq o)
  exact ⟨fun n i j o => (congrFun (W8_arr m ρ c 6) _).trans (array3 hx' (filter4 hw) hs' hq' (gain4 hg) (offset4 hb) n i j o),
    fun o => (congrFun (W8_arr m ρ c 7) _).trans (arraySum3 hx' (filter4 hw) hs' hq' (gain4 hg) (offset4 hb) o),
    fun o => (congrFun (W8_arr m ρ c 7) _).trans (arraySquare3 hx' (filter4 hw) hs' hq' (gain4 hg) (offset4 hb) o)⟩

/-! ## The head -/

theorem cos5 (r : Fin 256) (t : Fin 512) : @Eq EReal (V9 m ρ c main_v62 (ix2 r t))
    (if r.val / 32 = t.val / 64 then ((entry lit0 (r % 32) (t % 64) : ℝ) : EReal) else 0) := by
  refine (entry_cos _ r t).trans (if_congr Iff.rfl ?_ rfl)
  refine (congrFun ((W8_of m ρ c main_cst (by decide)).trans ((W7_of m ρ c main_cst (by decide)).trans ((W6_of m ρ c main_cst (by decide)).trans ((W5_of m ρ c main_cst (by decide)).trans ((W4_of m ρ c main_cst (by decide)).trans ((W3_of m ρ c main_cst (by decide)).trans (W2_of m ρ c main_cst (by decide)))))))) _).trans ?_
  exact (entry_cos_table _ _ _).trans (entry_coe _ cos_finite _ _)

theorem sin5 (r : Fin 256) (t : Fin 512) : @Eq EReal (V9 m ρ c main_v68 (ix2 r t))
    (if r.val / 32 = t.val / 64 then ((entry lit1 (r % 32) (t % 64) : ℝ) : EReal) else 0) := by
  refine (entry_sin _ r t).trans (if_congr Iff.rfl ?_ rfl)
  refine (congrFun ((W8_of m ρ c main_cst_0 (by decide)).trans ((W7_of m ρ c main_cst_0 (by decide)).trans ((W6_of m ρ c main_cst_0 (by decide)).trans ((W5_of m ρ c main_cst_0 (by decide)).trans ((W4_of m ρ c main_cst_0 (by decide)).trans ((W3_of m ρ c main_cst_0 (by decide)).trans (W2_of m ρ c main_cst_0 (by decide)))))))) _).trans ?_
  exact (entry_sin_table _ _ _).trans (entry_coe _ sin_finite _ _)

theorem sel5 (p : Fin 8) (r : Fin 256) : @Eq EReal (V9 m ρ c main_cst_1 (ix2 p r)) (if r.val / 32 = p.val then 1 else 0) := by
  refine (congrFun ((W9_of m ρ c main_cst_1 (by decide)).trans ((W8_of m ρ c main_cst_1 (by decide)).trans ((W7_of m ρ c main_cst_1 (by decide)).trans ((W6_of m ρ c main_cst_1 (by decide)).trans ((W5_of m ρ c main_cst_1 (by decide)).trans ((W4_of m ρ c main_cst_1 (by decide)).trans ((W3_of m ρ c main_cst_1 (by decide)).trans (W2_of m ρ c main_cst_1 (by decide))))))))) _).trans ?_
  exact (entry_sel _ _ _).trans (pick p r)

include hI hw hg hb hf hv hr

theorem call5 : (∀ (p : Fin 8) (e : Fin 14), @Eq EReal (W10 m ρ c (Proc.devRef .tc main_v81_0) (ix2 p e))
      ((gate (P.logits p) (order (P.logits p) 0) (order (P.logits p) 1) e : ℝ) : EReal))
    ∧ (∀ e : Fin 14, @Eq (BitVec 32) (W10 m ρ c (Proc.devRef .tc main_v81_1) (ix2 0 e))
      (sent (fun p e => gate (P.logits p) (order (P.logits p) 0) (order (P.logits p) 1) e) e)) := by
  obtain ⟨hx, hs, hq⟩ := call4 (ρ := ρ) hI hw hg hb
  have hx' : ∀ (t : Fin 512) (k : Fin 256), V9 m ρ c main_v72 (ix2 t k) = ((P.fourth t 0 0 k : ℝ) : EReal) := fun t k =>
    (entry_rows4 _ t k).trans (hx t 0 0 k)
  have hs' : ∀ o : Fin 256, V9 m ρ c main_v49_1 (ix2 0 o) = ((total 1 P.fourth o : ℝ) : EReal) := fun o =>
    (congrFun (W9_of m ρ c main_v49_1 (by decide)) _).trans (hs o)
  have hq' : ∀ o : Fin 256, V9 m ρ c main_v49_1 (ix2 1 o)
      = ((total 1 (fun n i j o => P.fourth n i j o * P.fourth n i j o) o : ℝ) : EReal) := fun o =>
    (congrFun (W9_of m ρ c main_v49_1 (by decide)) _).trans (hq o)
  have hg' : IsRow (P.gain 3) (V9 m ρ c main_v75) := fun o =>
    (entry_gain4 _ o).trans ((keep (W8_args m ρ c main_arg4 (by decide)) _).trans (hg 3 o))
  have hb' : IsRow (P.offset 3) (V9 m ρ c main_v78) := fun o =>
    (entry_offset4 _ o).trans ((keep (W8_args m ρ c main_arg5 (by decide)) _).trans (hb 3 o))
  have hf' : ∀ k f : Fin 256, V9 m ρ c main_v79 (ix2 k f) = ((P.map f k : ℝ) : EReal) := fun k f =>
    (entry_map _ k f).trans ((keep (W8_args m ρ c main_arg6 (by decide)) _).trans (hf f k))
  have hv' : IsRow P.bias (V9 m ρ c main_v80) := fun f =>
    (entry_bias _ f).trans ((keep (W8_args m ρ c main_arg7 (by decide)) _).trans (hv f))
  have hr' : ∀ (r : Fin 256) (e : Fin 14), V9 m ρ c main_v71 (ix2 r e) = ((P.router (r % 32) e : ℝ) : EReal) := fun r e =>
    (entry_gate _ r e).trans ((keep (W8_args m ρ c main_arg8 (by decide)) _).trans (hr _ e))
  exact ⟨fun p e => (congrFun (W10_arr m ρ c 10) _).trans (array4 hx' hs' hq' hg' hb' hf' hv' cos5 sin5 hr' sel5
      (fun p => order_first (P.logits p)) (fun p => order_second (P.logits p)) p e),
    fun e => (congrFun (W10_arr m ρ c 11) _).trans (load4 hx' hs' hq' hg' hb' hf' hv' cos5 sin5 hr' sel5
      (fun p => order_first (P.logits p)) (fun p => order_second (P.logits p)) e)⟩

/-- The two results after the run. -/
theorem results : (∀ (p : Fin 8) (e : Fin 14), @Eq EReal (W11 m ρ c (Proc.devRef .tc main_v81_0) (ix2 p e))
      ((gate (P.logits p) (order (P.logits p) 0) (order (P.logits p) 1) e : ℝ) : EReal))
    ∧ (∀ e : Fin 14, @Eq (BitVec 32) (W11 m ρ c (Proc.devRef .tc main_v82) (ix1 e))
      (sent (fun p e => gate (P.logits p) (order (P.logits p) 0) (order (P.logits p) 1) e) e)) := by
  obtain ⟨hx, hs⟩ := call5 (ρ := ρ) hI hw hg hb hf hv hr
  exact ⟨fun p e => (congrFun (W11_of m ρ c main_v81_0 (by decide)) _).trans (hx p e),
    fun e => (exit_load _ e).trans (hs e)⟩

end Cert.KernelIdeal.Value
-- ==== Proof.Value.Ref.lean ====
/- The reference's four layers, entry by entry, as functions of real numbers. -/
module

public import proofs.«01_k».proof.Proof.Gen.ReferenceIdeal.Run
public import proofs.«01_k».proof.Proof.Value.Real
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic Idealize.ShloMosaic.Pointwise

/-- The host's sum over the images and the places, at a channel. -/
theorem places_sum {n s p k : ℕ} (H : (⟨4, ![n, s, p, k]⟩ : Shape).ReducesTo [0, 1, 2] ⟨1, ![k]⟩)
    (v : (⟨4, ![n, s, p, k]⟩ : Shape).Idx → EReal) (init : EReal) (o : Fin k) :
    Ideal.hostReduceAdd H v init (ix1 o) = init + ∑ a : Fin n, ∑ i : Fin s, ∑ j : Fin p, v (ix4 a i j o) := by
  refine congrArg (init + ·) ((Finset.sum_filter_eq_sum_of_fiber _ (fun q : Fin n × Fin s × Fin p => ix4 q.1 q.2.1 q.2.2 o)
    (fun _ _ e => Prod.ext (congrFun e 0) (Prod.ext (congrFun e 1) (congrFun e 2))) (fun i => ?_) v).trans ?_)
  · constructor
    · intro e
      refine ⟨(i 0, i 1, i 2), ?_⟩
      funext a
      match a with
      | ⟨0, _⟩ => rfl
      | ⟨1, _⟩ => rfl
      | ⟨2, _⟩ => rfl
      | ⟨3, _⟩ => exact Fin.ext (congrArg Fin.val (congrFun e 0)).symm
    · rintro ⟨q, rfl⟩
      funext a
      match a with
      | ⟨0, _⟩ => rfl
  · simp only [Fintype.sum_prod_type]

/-- A layer's products with the bias. -/
def biased (h w : Act) (cb : ℕ → ℝ) : Act := fun n i j o => conv h w n i j o + cb o

variable {V0 : Valuation τ sig (Elt Ideal)}

/-! ## The first layer -/

section Layer0
variable {h w : Act} {cb g b : ℕ → ℝ}
  (hX : ∀ (n : Fin 512) (i : Fin 8) (d : Fin 2) (j : Fin 8) (e : Fin 2) (k : Fin 256),
    res_main_v1 V0 (ix6 n i d j e k) = ((h n (2 * i + d) (2 * j + e) k : ℝ) : EReal))
  (hw : ∀ (o k : Fin 256) (d e : Fin 2), V0 (Proc.devRef .tc main_arg2) (ix5 0 o k d e) = ((w o k d e : ℝ) : EReal))
  (hc : ∀ o : Fin 256, V0 (Proc.devRef .tc main_arg3) (ix2 0 o) = ((cb o : ℝ) : EReal))
  (hg : ∀ o : Fin 256, V0 (Proc.devRef .tc main_arg4) (ix2 0 o) = ((g o : ℝ) : EReal))
  (hb : ∀ o : Fin 256, V0 (Proc.devRef .tc main_arg5) (ix2 0 o) = ((b o : ℝ) : EReal))

include hX hw hc

theorem conv0 (n : Fin 512) (i j : Fin 8) (o : Fin 256) :
    res_main_v29 V0 (ix4 n i j o) = ((biased h w cb n i j o : ℝ) : EReal) := by
  unfold res_main_v29
  clean_types
  pointwise
  exact corners_coe h w n i j o (corner_coe _ _ _ _ _ _ 0 0 _ _ (fun k => hX n i 0 j 0 k) fun k => hw o k 0 0)
    (corner_coe _ _ _ _ _ _ 0 1 _ _ (fun k => hX n i 0 j 1 k) fun k => hw o k 0 1)
    (corner_coe _ _ _ _ _ _ 1 0 _ _ (fun k => hX n i 1 j 0 k) fun k => hw o k 1 0)
    (corner_coe _ _ _ _ _ _ 1 1 _ _ (fun k => hX n i 1 j 1 k) fun k => hw o k 1 1) (hc o)

theorem mean0 (o : Fin 256) : res_main_v33 V0 (ix4 0 0 0 o) = ((mean 8 (biased h w cb) o : ℝ) : EReal) := by
  unfold res_main_v33
  clean_types
  pointwise [places_sum, word_32768]
  rw [total_coe 8 (biased h w cb) o _ fun n i j => conv0 hX hw hc n i j o]
  exact (congrArg _ (by norm_num [Cert.Value.count])).trans (div_coe (count_pos (by decide)).ne')

theorem centred0 (n : Fin 512) (i j : Fin 8) (o : Fin 256) :
    res_main_v35 V0 (ix4 n i j o) = ((biased h w cb n i j o - mean 8 (biased h w cb) o : ℝ) : EReal) := by
  unfold res_main_v35
  clean_types
  pointwise
  rw [conv0 hX hw hc, mean0 hX hw hc, EReal.coe_sub]

include hg hb

theorem layer0 (n : Fin 512) (i : Fin 4) (d : Fin 2) (j : Fin 4) (e : Fin 2) (k : Fin 256) :
    res_main_v59 V0 (ix6 n i d j e k) = ((norm 8 g b (conv h w) n (2 * i + d) (2 * j + e) k : ℝ) : EReal) := by
  unfold res_main_v59
  clean_types
  pointwise [places_sum, word_32768]
  refine (norm_coe (s := 8) (by decide) g b (biased h w cb) n (2 * i + d) (2 * j + e) k (hg k) ?_ (mean0 hX hw hc k) ?_
    (congrArg _ (by norm_num [Cert.Value.count])) (hb k)).trans (by rw [← norm_add (by decide) g b (conv h w) cb]; rfl)
  · exact (conv0 hX hw hc _ _ _ _).trans (by simp only [mul_comm 2])
  · exact total_coe 8 (fun n i j o => (biased h w cb n i j o - mean 8 (biased h w cb) o) ^ 2) k _ fun n i j => by
      rw [centred0 hX hw hc, ← EReal.coe_mul, sq]

end Layer0

/-! ## The second layer -/

section Layer1
variable {h w : Act} {cb g b : ℕ → ℝ}
  (hX : ∀ (n : Fin 512) (i : Fin 4) (d : Fin 2) (j : Fin 4) (e : Fin 2) (k : Fin 256),
    res_main_v59 V0 (ix6 n i d j e k) = ((h n (2 * i + d) (2 * j + e) k : ℝ) : EReal))
  (hw : ∀ (o k : Fin 256) (d e : Fin 2), V0 (Proc.devRef .tc main_arg2) (ix5 1 o k d e) = ((w o k d e : ℝ) : EReal))
  (hc : ∀ o : Fin 256, V0 (Proc.devRef .tc main_arg3) (ix2 1 o) = ((cb o : ℝ) : EReal))
  (hg : ∀ o : Fin 256, V0 (Proc.devRef .tc main_arg4) (ix2 1 o) = ((g o : ℝ) : EReal))
  (hb : ∀ o : Fin 256, V0 (Proc.devRef .tc main_arg5) (ix2 1 o) = ((b o : ℝ) : EReal))

include hX hw hc

theorem conv1 (n : Fin 512) (i j : Fin 4) (o : Fin 256) :
    res_main_v87 V0 (ix4 n i j o) = ((biased h w cb n i j o : ℝ) : EReal) := by
  unfold res_main_v87
  clean_types
  pointwise
  exact corners_coe h w n i j o (corner_coe _ _ _ _ _ _ 0 0 _ _ (fun k => hX n i 0 j 0 k) fun k => hw o k 0 0)
    (corner_coe _ _ _ _ _ _ 0 1 _ _ (fun k => hX n i 0 j 1 k) fun k => hw o k 0 1)
    (corner_coe _ _ _ _ _ _ 1 0 _ _ (fun k => hX n i 1 j 0 k) fun k => hw o k 1 0)
    (corner_coe _ _ _ _ _ _ 1 1 _ _ (fun k => hX n i 1 j 1 k) fun k => hw o k 1 1) (hc o)

theorem mean1 (o : Fin 256) : res_main_v91 V0 (ix4 0 0 0 o) = ((mean 4 (biased h w cb) o : ℝ) : EReal) := by
  unfold res_main_v91
  clean_types
  pointwise [places_sum, word_8192]
  rw [total_coe 4 (biased h w cb) o _ fun n i j => conv1 hX hw hc n i j o]
  exact (congrArg _ (by norm_num [Cert.Value.count])).trans (div_coe (count_pos (by decide)).ne')

theorem centred1 (n : Fin 512) (i j : Fin 4) (o : Fin 256) :
    res_main_v93 V0 (ix4 n i j o) = ((biased h w cb n i j o - mean 4 (biased h w cb) o : ℝ) : EReal) := by
  unfold res_main_v93
  clean_types
  pointwise
  rw [conv1 hX hw hc, mean1 hX hw hc, EReal.coe_sub]

include hg hb

theorem layer1 (n : Fin 512) (i : Fin 2) (d : Fin 2) (j : Fin 2) (e : Fin 2) (k : Fin 256) :
    res_main_v117 V0 (ix6 n i d j e k) = ((norm 4 g b (conv h w) n (2 * i + d) (2 * j + e) k : ℝ) : EReal) := by
  unfold res_main_v117
  clean_types
  pointwise [places_sum, word_8192]
  refine (norm_coe (s := 4) (by decide) g b (biased h w cb) n (2 * i + d) (2 * j + e) k (hg k) ?_ (mean1 hX hw hc k) ?_
    (congrArg _ (by norm_num [Cert.Value.count])) (hb k)).trans (by rw [← norm_add (by decide) g b (conv h w) cb]; rfl)
  · exact (conv1 hX hw hc _ _ _ _).trans (by simp only [mul_comm 2])
  · exact total_coe 4 (fun n i j o => (biased h w cb n i j o - mean 4 (biased h w cb) o) ^ 2) k _ fun n i j => by
      rw [centred1 hX hw hc, ← EReal.coe_mul, sq]

end Layer1

/-! ## The third layer -/

section Layer2
variable {h w : Act} {cb g b : ℕ → ℝ}
  (hX : ∀ (n : Fin 512) (i : Fin 2) (d : Fin 2) (j : Fin 2) (e : Fin 2) (k : Fin 256),
    res_main_v117 V0 (ix6 n i d j e k) = ((h n (2 * i + d) (2 * j + e) k : ℝ) : EReal))
  (hw : ∀ (o k : Fin 256) (d e : Fin 2), V0 (Proc.devRef .tc main_arg2) (ix5 2 o k d e) = ((w o k d e : ℝ) : EReal))
  (hc : ∀ o : Fin 256, V0 (Proc.devRef .tc main_arg3) (ix2 2 o) = ((cb o : ℝ) : EReal))
  (hg : ∀ o : Fin 256, V0 (Proc.devRef .tc main_arg4) (ix2 2 o) = ((g o : ℝ) : EReal))
  (hb : ∀ o : Fin 256, V0 (Proc.devRef .tc main_arg5) (ix2 2 o) = ((b o : ℝ) : EReal))

include hX hw hc

theorem conv2 (n : Fin 512) (i j : Fin 2) (o : Fin 256) :
    res_main_v145 V0 (ix4 n i j o) = ((biased h w cb n i j o : ℝ) : EReal) := by
  unfold res_main_v145
  clean_types
  pointwise
  exact corners_coe h w n i j o (corner_coe _ _ _ _ _ _ 0 0 _ _ (fun k => hX n i 0 j 0 k) fun k => hw o k 0 0)
    (corner_coe _ _ _ _ _ _ 0 1 _ _ (fun k => hX n i 0 j 1 k) fun k => hw o k 0 1)
    (corner_coe _ _ _ _ _ _ 1 0 _ _ (fun k => hX n i 1 j 0 k) fun k => hw o k 1 0)
    (corner_coe _ _ _ _ _ _ 1 1 _ _ (fun k => hX n i 1 j 1 k) fun k => hw o k 1 1) (hc o)

theorem mean2 (o : Fin 256) : res_main_v149 V0 (ix4 0 0 0 o) = ((mean 2 (biased h w cb) o : ℝ) : EReal) := by
  unfold res_main_v149
  clean_types
  pointwise [places_sum, word_2048]
  rw [total_coe 2 (biased h w cb) o _ fun n i j => conv2 hX hw hc n i j o]
  exact (congrArg _ (by norm_num [Cert.Value.count])).trans (div_coe (count_pos (by decide)).ne')

theorem centred2 (n : Fin 512) (i j : Fin 2) (o : Fin 256) :
    res_main_v151 V0 (ix4 n i j o) = ((biased h w cb n i j o - mean 2 (biased h w cb) o : ℝ) : EReal) := by
  unfold res_main_v151
  clean_types
  pointwise
  rw [conv2 hX hw hc, mean2 hX hw hc, EReal.coe_sub]

include hg hb

theorem layer2 (n : Fin 512) (i : Fin 1) (d : Fin 2) (j : Fin 1) (e : Fin 2) (k : Fin 256) :
    res_main_v175 V0 (ix6 n i d j e k) = ((norm 2 g b (conv h w) n (2 * i + d) (2 * j + e) k : ℝ) : EReal) := by
  obtain rfl : i = 0 := Subsingleton.elim _ _
  obtain rfl : j = 0 := Subsingleton.elim _ _
  rw [show ∀ x : Fin 2, 2 * ((0 : Fin 1) : ℕ) + x = x from fun x => by simp, show ∀ x : Fin 2, 2 * ((0 : Fin 1) : ℕ) + x = x from fun x => by simp]
  unfold res_main_v175
  clean_types
  pointwise [places_sum, word_2048]
  refine (norm_coe (s := 2) (by decide) g b (biased h w cb) n d e k (hg k) ?_ (mean2 hX hw hc k) ?_
    (congrArg _ (by norm_num [Cert.Value.count])) (hb k)).trans (by rw [← norm_add (by decide) g b (conv h w) cb]; rfl)
  · exact (conv2 hX hw hc _ _ _ _)
  · exact total_coe 2 (fun n i j o => (biased h w cb n i j o - mean 2 (biased h w cb) o) ^ 2) k _ fun n i j => by
      rw [centred2 hX hw hc, ← EReal.coe_mul, sq]

end Layer2

/-! ## The fourth layer -/

section Layer3
variable {h w : Act} {cb g b : ℕ → ℝ}
  (hX : ∀ (n : Fin 512) (i : Fin 1) (d : Fin 2) (j : Fin 1) (e : Fin 2) (k : Fin 256),
    res_main_v175 V0 (ix6 n i d j e k) = ((h n (2 * i + d) (2 * j + e) k : ℝ) : EReal))
  (hw : ∀ (o k : Fin 256) (d e : Fin 2), V0 (Proc.devRef .tc main_arg2) (ix5 3 o k d e) = ((w o k d e : ℝ) : EReal))
  (hc : ∀ o : Fin 256, V0 (Proc.devRef .tc main_arg3) (ix2 3 o) = ((cb o : ℝ) : EReal))
  (hg : ∀ o : Fin 256, V0 (Proc.devRef .tc main_arg4) (ix2 3 o) = ((g o : ℝ) : EReal))
  (hb : ∀ o : Fin 256, V0 (Proc.devRef .tc main_arg5) (ix2 3 o) = ((b o : ℝ) : EReal))

include hX hw hc

theorem conv3 (n : Fin 512) (i j : Fin 1) (o : Fin 256) :
    res_main_v203 V0 (ix4 n i j o) = ((biased h w cb n i j o : ℝ) : EReal) := by
  obtain rfl : i = 0 := Subsingleton.elim _ _
  obtain rfl : j = 0 := Subsingleton.elim _ _
  unfold res_main_v203
  clean_types
  pointwise
  exact corners_coe h w n 0 0 o (corner_coe _ _ _ _ _ _ 0 0 _ _ (fun k => hX n 0 0 0 0 k) fun k => hw o k 0 0)
    (corner_coe _ _ _ _ _ _ 0 1 _ _ (fun k => hX n 0 0 0 1 k) fun k => hw o k 0 1)
    (corner_coe _ _ _ _ _ _ 1 0 _ _ (fun k => hX n 0 1 0 0 k) fun k => hw o k 1 0)
    (corner_coe _ _ _ _ _ _ 1 1 _ _ (fun k => hX n 0 1 0 1 k) fun k => hw o k 1 1) (hc o)

theorem mean3 (o : Fin 256) : res_main_v207 V0 (ix4 0 0 0 o) = ((mean 1 (biased h w cb) o : ℝ) : EReal) := by
  unfold res_main_v207
  clean_types
  pointwise [places_sum, word_512]
  rw [total_coe 1 (biased h w cb) o _ fun n i j => conv3 hX hw hc n i j o]
  exact (congrArg _ (by norm_num [Cert.Value.count])).trans (div_coe (count_pos (by decide)).ne')

theorem centred3 (n : Fin 512) (i j : Fin 1) (o : Fin 256) :
    res_main_v209 V0 (ix4 n i j o) = ((biased h w cb n i j o - mean 1 (biased h w cb) o : ℝ) : EReal) := by
  obtain rfl : i = 0 := Subsingleton.elim _ _
  obtain rfl : j = 0 := Subsingleton.elim _ _
  unfold res_main_v209
  clean_types
  pointwise
  rw [conv3 hX hw hc, mean3 hX hw hc, EReal.coe_sub]
  rfl

include hg hb

variable {fw : ℕ → ℕ → ℝ} {fb : ℕ → ℝ}
  (hfw : ∀ f k : Fin 256, V0 (Proc.devRef .tc main_arg6) (ix2 f k) = ((fw f k : ℝ) : EReal))
  (hfb : ∀ f : Fin 256, V0 (Proc.devRef .tc main_arg7) (ix1 f) = ((fb f : ℝ) : EReal))

include hfw hfb

/-- The fourth layer's result, through the linear map of the channels. -/
theorem fused (p : Fin 8) (t : Fin 64) (f : Fin 256) :
    res_main_v237 V0 (ix3 p t f) = ((fuse fw fb (norm 1 g b (conv h w)) (64 * p + t) f : ℝ) : EReal) := by
  unfold res_main_v237
  clean_types
  pointwise [places_sum, word_512]
  refine fuse_coe fw fb _ _ f _ _ (fun k => ?_) (fun k => hfw f k) (hfb f)
  refine (norm_coe (s := 1) (by decide) g b (biased h w cb) (64 * p + t) 0 0 k (hg k) ?_ (mean3 hX hw hc k) ?_
    (congrArg _ (by norm_num [Cert.Value.count])) (hb k)).trans (by rw [← norm_add (by decide) g b (conv h w) cb]; rfl)
  · exact (conv3 hX hw hc _ _ _ _).trans (by simp only [mul_comm 64]; rfl)
  · exact total_coe 1 (fun n i j o => (biased h w cb n i j o - mean 1 (biased h w cb) o) ^ 2) k _ fun n i j => by
      rw [centred3 hX hw hc, ← EReal.coe_mul, sq]

end Layer3

end Cert.ReferenceIdeal.Value
-- ==== Proof.Value.RefHead.lean ====
/- The reference's head, entry by entry: the transform along the images of a group and the weights of the experts. -/
module

public import proofs.«01_k».proof.Proof.Value.Ref
public import proofs.«01_k».proof.Proof.Value.Head
public import proofs.«01_k».proof.Proof.Value.Table

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic Idealize.ShloMosaic.Pointwise

/-- The two tables, as functions of row and column. -/
abbrev cosTable : ℕ → ℕ → ℝ := entry KernelIdeal.lit0
abbrev sinTable : ℕ → ℕ → ℝ := entry KernelIdeal.lit1

theorem cosTable_coe (k : Fin 32) (t : Fin 64) :
    Ideal.ofBits .f32 (lit0 (S32x64.rowMajor (ix2 k t))) = ((cosTable k t : ℝ) : EReal) := by
  rw [cos_same]
  exact entry_coe _ cos_finite k t

theorem sinTable_coe (k : Fin 32) (t : Fin 64) :
    Ideal.ofBits .f32 (lit1 (S32x64.rowMajor (ix2 k t))) = ((sinTable k t : ℝ) : EReal) := by
  rw [sin_same]
  exact entry_coe _ sin_finite k t

variable {V0 : Valuation τ sig (Elt Ideal)} {F wg : ℕ → ℕ → ℝ}
  (hF : ∀ (p : Fin 8) (t : Fin 64) (f : Fin 256), res_main_v237 V0 (ix3 p t f) = ((F (64 * p + t) f : ℝ) : EReal))
  (hwg : ∀ (k : Fin 32) (e : Fin 14), V0 (Proc.devRef .tc main_arg8) (ix2 k e) = ((wg k e : ℝ) : EReal))

include hF

theorem cosPart (p : Fin 8) (f : Fin 256) (k : Fin 32) :
    res_main_v238 V0 (ix3 p f k) = ((dft cosTable F p f k : ℝ) : EReal) := by
  unfold res_main_v238
  clean_types
  pointwise
  exact dft_coe cosTable F p f k _ _ (fun t => hF p t f) fun t => cosTable_coe k t

theorem sinPart (p : Fin 8) (f : Fin 256) (k : Fin 32) :
    res_main_v239 V0 (ix3 p f k) = ((dft sinTable F p f k : ℝ) : EReal) := by
  unfold res_main_v239
  clean_types
  pointwise
  exact dft_coe sinTable F p f k _ _ (fun t => hF p t f) fun t => sinTable_coe k t

include hwg

theorem weights (p : Fin 8) (e : Fin 14) :
    res_main_v247 V0 (ix2 p e) = ((weight cosTable sinTable F wg p e : ℝ) : EReal) := by
  unfold res_main_v247
  clean_types
  pointwise [word_256]
  exact weight_coe cosTable sinTable F wg p e _ _
    (fun f k => power_coe cosTable sinTable F p f k (cosPart hF p f k) (sinPart hF p f k)) fun k => hwg k e

end Cert.ReferenceIdeal.Value
-- ==== Proof.Value.RefTop.lean ====
/- The reference's two results: the gates of the two greatest weights of each group, and the loads. -/
module

public import proofs.«01_k».proof.Proof.Value.RefHead
public import proofs.«01_k».proof.Proof.Value.TopTwo
public import Idealize.ShloMosaic.Lib.ScatterToDense.RefScatter
public import Idealize.ShloMosaic.Lib.Tactic.CleanTypes

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic Idealize.ShloMosaic.Pointwise

/-! ## The two greatest weights -/

theorem wrap_group : ∀ p : Fin 8, Scalar.select (IntOp.cmpi .slt (BitVec.ofNat 32 p) 0#32) (IntOp.addi (BitVec.ofNat 32 p) 8#32)
    (BitVec.ofNat 32 p) = BitVec.ofNat 32 p := by decide
theorem wrap_expert : ∀ e : Fin 14, Scalar.select (IntOp.cmpi .slt (BitVec.ofNat 32 e) 0#32) (IntOp.addi (BitVec.ofNat 32 e) 14#32)
    (BitVec.ofNat 32 e) = BitVec.ofNat 32 e := by decide

theorem sorted_at (x : FVec Ideal S8x14 .f32) (p : Fin 8) (q : Fin 14) {y : Fin 14 → ℝ}
    (hy : ∀ e, x (ix2 p e) = ((y e : ℝ) : EReal)) (idx : IVec S8x14 32) (hi : ∀ e, idx (ix2 p e) = BitVec.ofNat 32 e) :
    @Eq EReal ((Host.sort2 S8x14 1 (fun l r => FloatOps.cmpfTotal .gt l.1 r.1) x idx).1 (ix2 p q)) ((y (order y q) : ℝ) : EReal)
    ∧ (Host.sort2 S8x14 1 (fun l r => FloatOps.cmpfTotal .gt l.1 r.1) x idx).2 (ix2 p q) = BitVec.ofNat 32 (order y q) := by
  have ha : ∀ k : Fin 14, (ix2 p q : S8x14.Idx).along 1 k = ix2 p k := fun k => by funext m; fin_cases m <;> rfl
  have ho : sortedFrom (fun k k' : Fin 14 => FloatOps.cmpfTotal (F := Ideal) (φ := .f32) .gt (x ((ix2 p q : S8x14.Idx).along 1 k)) (x ((ix2 p q : S8x14.Idx).along 1 k')) == 1#1)
      = order y := by
    refine order_of y _ fun a b => ?_
    rw [ha, ha, hy, hy]
    show (BitVec.ofBool (decide (((y b : ℝ) : EReal) < ((y a : ℝ) : EReal))) == 1#1) = true ↔ y b < y a
    rw [← EReal.coe_lt_coe_iff]
    by_cases h : ((y b : ℝ) : EReal) < ((y a : ℝ) : EReal) <;> simp [h]
  constructor
  · refine Eq.trans (b := x ((ix2 p q : S8x14.Idx).along 1 (sortedFrom (fun k k' : Fin 14 => FloatOps.cmpfTotal (F := Ideal) (φ := .f32) .gt (x ((ix2 p q : S8x14.Idx).along 1 k)) (x ((ix2 p q : S8x14.Idx).along 1 k')) == 1#1) q))) rfl ?_
    exact (congrArg (fun f : Fin 14 → Fin 14 => x ((ix2 p q : S8x14.Idx).along 1 (f q))) ho).trans ((congrArg x (ha _)).trans (hy _))
  · refine Eq.trans (b := idx ((ix2 p q : S8x14.Idx).along 1 (sortedFrom (fun k k' : Fin 14 => FloatOps.cmpfTotal (F := Ideal) (φ := .f32) .gt (x ((ix2 p q : S8x14.Idx).along 1 k)) (x ((ix2 p q : S8x14.Idx).along 1 k')) == 1#1) q))) rfl ?_
    exact (congrArg (fun f : Fin 14 → Fin 14 => idx ((ix2 p q : S8x14.Idx).along 1 (f q))) ho).trans ((congrArg idx (ha _)).trans (hi _))

variable {V0 : Valuation τ sig (Elt Ideal)} {y : Fin 8 → Fin 14 → ℝ}
  (hy : ∀ p e, res_main_v247 V0 (ix2 p e) = ((y p e : ℝ) : EReal))

include hy

theorem topValue (p : Fin 8) (q : Fin 2) :
    res_main_v248 V0 (ix2 p q) = ((y p (order (y p) ⟨q, by omega⟩) : ℝ) : EReal) := by
  refine Eq.trans ?_ (sorted_at (res_main_v247 V0) p ⟨q, by omega⟩ (hy p) (fun i => iotaInDim S8x14 32 1 i) (fun e => rfl)).1
  unfold res_main_v248 Host.topK
  pointwise
  rfl

theorem topPlace (p : Fin 8) (q : Fin 2) :
    res_main_v263 V0 (ix2 p q) = BitVec.ofNat 32 (order (y p) ⟨q, by omega⟩) := by
  refine Eq.trans ?_ (sorted_at (res_main_v247 V0) p ⟨q, by omega⟩ (hy p) (fun i => iotaInDim S8x14 32 1 i) (fun e => rfl)).2
  unfold res_main_v263 Host.topK
  pointwise
  rfl

/-! ## Their gates -/

/-- How the second weight compares with the first. -/
theorem raised (p : Fin 8) (q : Fin 2) : res_main_v255 V0 (ix2 p q)
    = ((Real.exp (y p (order (y p) ⟨q, by omega⟩) - y p (order (y p) 0)) : ℝ) : EReal) := by
  unfold res_main_v255
  clean_types
  pointwise
  have hm : max (Ideal.ofBits FTy.f32 4286578688#32)
      (Finset.fold max (Ideal.ofBits FTy.f32 4286578688#32) (fun x : Fin 2 => res_main_v248 V0 (ix2 p x)) Finset.univ)
      = ((y p (order (y p) 0) : ℝ) : EReal) := by
    rw [show Ideal.ofBits FTy.f32 4286578688#32 = ⊥ by simp [Ideal.ofBits, Ideal.ieee], bot_sup_eq]
    refine (fold_eq max _ _ _ 0 (Finset.mem_univ _) (max_eq_left bot_le) fun k _ _ => max_eq_left ?_).trans (topValue hy p 0)
    rw [topValue hy p k, topValue hy p 0]
    exact EReal.coe_le_coe_iff.mpr ((order_first (y p)).le _)
  rw [hm, topValue hy p q, ← EReal.coe_sub]
  rfl

/-- The gates of the two greatest weights. -/
abbrev shares (V0 : Valuation τ sig (Elt Ideal)) : FVec Ideal S8x2 .f32 :=
  Host.divf (res_main_v255 V0) (broadcastInDim S8x2 ![0, 1] bcast_S8x1_S8x2_0_1 (broadcastInDim S8x1 ![0] bcast_S8_S8x1_0
    (Host.reduceAdd (res_main_v255 V0) (constant S_ .f32 0x00000000#32) reducesTo_S8x2_S8_d1 h_S_)))

theorem share (p : Fin 8) (q : Fin 2) : shares V0 (ix2 p q)
    = ((Real.exp (y p (order (y p) ⟨q, by omega⟩) - y p (order (y p) 0))
      / (1 + Real.exp (y p (order (y p) 1) - y p (order (y p) 0))) : ℝ) : EReal) := by
  unfold shares
  clean_types
  pointwise
  rw [Fin.sum_univ_two, raised hy p q, raised hy p 0, raised hy p 1, ← EReal.coe_add]
  refine (div_coe ?_).trans (congrArg _ ?_)
  · exact (add_pos (Real.exp_pos _) (Real.exp_pos _)).ne'
  · show _ / (Real.exp (y p (order (y p) 0) - y p (order (y p) 0)) + _) = _
    rw [sub_self, Real.exp_zero]
    rfl

/-! ## The scatter -/

/-- The places the gates go to: group and expert. -/
abbrev spots (V0 : Valuation τ sig (Elt Ideal)) : IVec S8x2x2 32 :=
  concatenate S8x2x2 2 [⟨S8x2x1, (broadcastInDim S8x2x1 ![0, 1] bcast_S8x2_S8x2x1_0_1 (broadcastInDim S8x2 ![0, 1] bcast_S8x1_S8x2_0_1
    (select (cmpi .slt (res_main_v262 V0) (broadcastInDim S8x1 ![] bcast_S_S8x1 (constantI S_ 32 0#32)))
      (addi (res_main_v262 V0) (broadcastInDim S8x1 ![] bcast_S_S8x1 (constantI S_ 32 8#32))) (res_main_v262 V0))))⟩,
    ⟨S8x2x1, (broadcastInDim S8x2x1 ![0, 1] bcast_S8x2_S8x2x1_0_1 (select (cmpi .slt (res_main_v263 V0)
      (broadcastInDim S8x2 ![] bcast_S_S8x2 (constantI S_ 32 0#32)))
      (addi (res_main_v263 V0) (broadcastInDim S8x2 ![] bcast_S_S8x2 (constantI S_ 32 14#32))) (res_main_v263 V0)))⟩]
    concatenates_S8x2x1_S8x2x1_S8x2x2_d2

omit hy in
theorem spot_group (p : Fin 8) (q : Fin 2) : spots V0 (ix3 p q 0) = BitVec.ofNat 32 p := by
  unfold spots res_main_v262
  clean_types
  pointwise
  exact wrap_group p

theorem spot_expert (p : Fin 8) (q : Fin 2) : spots V0 (ix3 p q 1) = BitVec.ofNat 32 (order (y p) ⟨q, by omega⟩) := by
  unfold spots
  clean_types
  pointwise
  rw [topPlace hy p q]
  exact wrap_expert _

/-- The gates of all experts. -/
abbrev dense (V0 : Valuation τ sig (Elt Ideal)) : FVec Ideal S8x14 .f32 :=
  Host.scatter scatter_S8x14_S8x2x2_S8x2_n_01_01_2 (fun _ b => b) (broadcastInDim S8x14 ![] bcast_S_S8x14 (constant S_ .f32 0x00000000#32))
    (spots V0) (shares V0)

theorem dense_at (p : Fin 8) (e : Fin 14) :
    dense V0 (ix2 p e) = ((gate (y p) (order (y p) 0) (order (y p) 1) e : ℝ) : EReal) := by
  have hne : order (y p) 1 ≠ order (y p) 0 := (order_second (y p)).1
  refine (ScatterToDense.scatter_eq_GS scatter_S8x14_S8x2x2_S8x2_n_01_01_2 rfl rfl rfl (by decide) (by decide) _ (spots V0) (shares V0)
    (fun p k => BitVec.ofNat 32 (order (y p) (if k = 0 then 0 else 1)))
    (fun p k => ((Real.exp (y p (order (y p) (if k = 0 then 0 else 1)) - y p (order (y p) 0))
      / (1 + Real.exp (y p (order (y p) 1) - y p (order (y p) 0))) : ℝ) : EReal))
    (fun i k => spot_group i k) (fun i k => (spot_expert hy i k).trans ?_) (fun i k => (share hy i k).trans ?_) p e).trans ?_
  · fin_cases k <;> rfl
  · fin_cases k <;> rfl
  have hw : ∀ i : Fin 14, e.val = (BitVec.ofNat 32 i).toNat ↔ e = i := fun i => by
    rw [BitVec.toNat_ofNat, Nat.mod_eq_of_lt (by omega), Fin.ext_iff]
  unfold gate
  rw [ScatterToDense.GS_succ, ScatterToDense.GS_succ, ScatterToDense.GS_zero]
  simp only [hw, if_pos, one_ne_zero, if_false, sub_self, Real.exp_zero]
  by_cases h0 : e = order (y p) 0
  · rw [if_neg (by rw [h0]; exact hne.symm), if_pos h0, if_pos h0]
  rw [if_neg h0, if_neg h0]
  by_cases h1 : e = order (y p) 1
  · rw [if_pos h1, if_pos h1]
  rw [if_neg h1, if_neg h1]
  pointwise
  rfl

/-- The loads. -/
theorem load_at (e : Fin 14) : Host.reduce IntOp.addi (extui 32 (cmpf .ogt (dense V0)
    (broadcastInDim S8x14 ![] bcast_S_S8x14 (constant S_ .f32 0x00000000#32))) natLt_1_32) (constantI S_ 32 0#32) reducesTo_S8x14_S14_d0 h_S_ (ix1 e)
    = sent (fun p e => gate (y p) (order (y p) 0) (order (y p) 1) e) e := by
  generalize hD : dense V0 = D
  pointwise
  unfold sent
  refine Finset.fold_congr fun p _ => ?_
  refine congrArg (fun b => BitVec.setWidth 32 (BitVec.ofBool b)) (decide_eq_decide.mpr ?_)
  exact (iff_of_eq (congrArg (fun x : EReal => 0 < x) ((congrFun hD.symm _).trans (dense_at hy p e)))).trans EReal.coe_pos

end Cert.ReferenceIdeal.Value
-- ==== Proof.Value.RefNet.lean ====
/- The reference's weights as the real function of its arguments. -/
module

public import proofs.«01_k».proof.Proof.Value.RefTop
public import proofs.«01_k».proof.Proof.Value.Net

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic Idealize.ShloMosaic.Pointwise

variable {V0 : Valuation τ sig (Elt Ideal)}

/-- The images, two rows and two columns at a time. -/
theorem images {h : Act} (hI : ∀ (p : Fin 8) (t : Fin 64) (i j : Fin 16) (k : Fin 256),
      V0 (Proc.devRef .tc main_arg0) (ix6 p t 0 i j k) = ((h (64 * p + t) i j k : ℝ) : EReal))
    (n : Fin 512) (i : Fin 8) (d : Fin 2) (j : Fin 8) (e : Fin 2) (k : Fin 256) :
    res_main_v1 V0 (ix6 n i d j e k) = ((h n (2 * i + d) (2 * j + e) k : ℝ) : EReal) := by
  refine Eq.trans ?_ ((hI ⟨n / 64, by omega⟩ ⟨n % 64, by omega⟩ ⟨i * 2 + d, by omega⟩ ⟨j * 2 + e, by omega⟩ k).trans
    (by simp only [Nat.div_add_mod, Nat.mul_comm]))
  unfold res_main_v1
  clean_types
  pointwise

variable {P : Params} {cb : ℕ → ℕ → ℝ}

theorem logits (hI : ∀ (p : Fin 8) (t : Fin 64) (i j : Fin 16) (k : Fin 256),
      V0 (Proc.devRef .tc main_arg0) (ix6 p t 0 i j k) = ((P.images (64 * p + t) i j k : ℝ) : EReal))
    (hw : ∀ (L : Fin 4) (o k : Fin 256) (d e : Fin 2),
      V0 (Proc.devRef .tc main_arg2) (ix5 L o k d e) = ((P.filter L o k d e : ℝ) : EReal))
    (hc : ∀ (L : Fin 4) (o : Fin 256), V0 (Proc.devRef .tc main_arg3) (ix2 L o) = ((cb L o : ℝ) : EReal))
    (hg : ∀ (L : Fin 4) (o : Fin 256), V0 (Proc.devRef .tc main_arg4) (ix2 L o) = ((P.gain L o : ℝ) : EReal))
    (hb : ∀ (L : Fin 4) (o : Fin 256), V0 (Proc.devRef .tc main_arg5) (ix2 L o) = ((P.offset L o : ℝ) : EReal))
    (hf : ∀ f k : Fin 256, V0 (Proc.devRef .tc main_arg6) (ix2 f k) = ((P.map f k : ℝ) : EReal))
    (hv : ∀ f : Fin 256, V0 (Proc.devRef .tc main_arg7) (ix1 f) = ((P.bias f : ℝ) : EReal))
    (hr : ∀ (k : Fin 32) (e : Fin 14), V0 (Proc.devRef .tc main_arg8) (ix2 k e) = ((P.router k e : ℝ) : EReal))
    (p : Fin 8) (e : Fin 14) : res_main_v247 V0 (ix2 p e) = ((P.logits p e : ℝ) : EReal) :=
  weights (fused (layer2 (layer1 (layer0 (images hI) (hw 0) (hc 0) (hg 0) (hb 0)) (hw 1) (hc 1) (hg 1) (hb 1))
    (hw 2) (hc 2) (hg 2) (hb 2)) (hw 3) (hc 3) (hg 3) (hb 3) hf hv) hr p e

end Cert.ReferenceIdeal.Value
-- ==== Proof.Value.Agree.lean ====
/- The kernel and the reference leave the same results. -/
module

public import proofs.«01_k».proof.Proof.Value.Finite
public import proofs.«01_k».proof.Proof.Value.KernelNet
public import proofs.«01_k».proof.Proof.Value.RefNet
public import proofs.«01_k».proof.Proof.KernelIdealRun.Frame

@[expose] public section

set_option maxRecDepth 16384

noncomputable section

namespace Cert.Value

open Idealize.ShloMosaic Idealize.ShloMosaic.TcCoe Idealize.ShloMosaic.Tactic Idealize.ShloMosaic.Pointwise
open Idealize.SL.Sem

/-- The shapes the precondition's broadcasts ask for. -/
theorem facts_inputs_finite : Cert.Pre_inputs_finite.Facts := by constructor <;> decide

section Arguments
variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}
  (hpre : Pre_KernelIdeal_inputs_finite (hPre_inputs_finite := facts_inputs_finite) m) (c : Dev KernelIdeal.nD)

/-- The gates of the groups, from the weights. -/
abbrev gatesOf (y : Fin 8 → Fin 14 → ℝ) (p : Fin 8) (e : Fin 14) : ℝ := gate (y p) (order (y p) 0) (order (y p) 1) e

include hpre in
/-- At finite arguments both programs' results are the same function of the arguments. -/
theorem agree (ρ : Dev KernelIdeal.nD → PrngReg)
    (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)) :
    ∃ y : Fin 8 → Fin 14 → ℝ,
      (∀ p e, @Eq EReal (KernelIdeal.Whole.W11 m ρ c (Proc.devRef .tc KernelIdeal.main_v81_0) (ix2 p e)) ((gatesOf y p e : ℝ) : EReal))
      ∧ (∀ e, @Eq (BitVec 32) (KernelIdeal.Whole.W11 m ρ c (Proc.devRef .tc KernelIdeal.main_v82) (ix1 e)) (sent (gatesOf y) e))
      ∧ ∀ p e, ReferenceIdeal.Value.res_main_v247 (StableHlo.launchContents m' c) (ix2 p e) = ((y p e : ℝ) : EReal) := by
  obtain ⟨p0, p2, p3, p4, p5, p6, p7, p8⟩ := hpre c
  obtain ⟨e0, e1, e2, e3, e4, e5, e6, e7, e8⟩ := h c
  obtain ⟨images, hI⟩ := real_images (m ((c.tc : Thread KernelIdeal.nD KernelIdeal.τ).loc KernelIdeal.main_arg0)) fun i => real_of_below _ (congrFun p0 i)
  obtain ⟨filter, hw⟩ := real_filter (m ((c.tc : Thread KernelIdeal.nD KernelIdeal.τ).loc KernelIdeal.main_arg2)) fun i => real_of_below _ (congrFun p2 i)
  obtain ⟨added, hc⟩ := real_table (by decide) (by decide) (m ((c.tc : Thread KernelIdeal.nD KernelIdeal.τ).loc KernelIdeal.main_arg3)) fun i => real_of_below _ (congrFun p3 i)
  obtain ⟨gain, hg⟩ := real_table (by decide) (by decide) (m ((c.tc : Thread KernelIdeal.nD KernelIdeal.τ).loc KernelIdeal.main_arg4)) fun i => real_of_below _ (congrFun p4 i)
  obtain ⟨offset, hb⟩ := real_table (by decide) (by decide) (m ((c.tc : Thread KernelIdeal.nD KernelIdeal.τ).loc KernelIdeal.main_arg5)) fun i => real_of_below _ (congrFun p5 i)
  obtain ⟨map, hf⟩ := real_table (by decide) (by decide) (m ((c.tc : Thread KernelIdeal.nD KernelIdeal.τ).loc KernelIdeal.main_arg6)) fun i => real_of_below _ (congrFun p6 i)
  obtain ⟨bias, hv⟩ := real_line (m ((c.tc : Thread KernelIdeal.nD KernelIdeal.τ).loc KernelIdeal.main_arg7)) fun i => real_of_below _ (congrFun p7 i)
  obtain ⟨router, hr⟩ := real_table (by decide) (by decide) (m ((c.tc : Thread KernelIdeal.nD KernelIdeal.τ).loc KernelIdeal.main_arg8)) fun i => real_of_below _ (congrFun p8 i)
  let P : Params := ⟨images, filter, gain, offset, map, bias, router⟩
  have k := KernelIdeal.Value.results (m := m) (ρ := ρ) (c := c) (P := P) hI hw hg hb hf hv hr
  refine ⟨P.logits, k.1, k.2, ReferenceIdeal.Value.logits (P := P) (cb := added)
    (fun p t i j k => (congrFun e0 _).trans (hI p t i j k)) (fun L o k d e => (congrFun e2 _).trans (hw L o k d e))
    (fun L o => (congrFun e3 _).trans (hc L o)) (fun L o => (congrFun e4 _).trans (hg L o))
    (fun L o => (congrFun e5 _).trans (hb L o)) (fun f k => (congrFun e6 _).trans (hf f k))
    (fun f => (congrFun e7 _).trans (hv f)) (fun k e => (congrFun e8 _).trans (hr k e))⟩

end Arguments

/-- Both programs run, leave equal results and leave their arguments as they were. -/
theorem algebraic : algebraic_KernelIdeal_ReferenceIdeal_pre_inputs_finite (hKernelIdeal := KernelIdeal.Gen.facts)
    (hReferenceIdeal := ReferenceIdeal.Gen.facts) (hPre_inputs_finite := facts_inputs_finite) := by
  intro m g m' g' hpre hargs
  refine ⟨fun c => KernelIdeal.Whole.W11 m g c (Proc.devRef .tc KernelIdeal.main_v81_0),
    fun c => KernelIdeal.Whole.W11 m g c (Proc.devRef .tc KernelIdeal.main_v82), ?_, ?_⟩
  · refine (θ_run _ _ _).mono (fun r h c => ⟨h.1 c _ (KernelIdeal.Whole.mem_uc KernelIdeal.main_v81_0 (by decide)),
      h.1 c _ (KernelIdeal.Whole.mem_uc KernelIdeal.main_v82 (by decide)), ?_⟩) (KernelIdeal.Whole.run_all m g)
    have a := fun r hr hs => (h.1 c _ (KernelIdeal.Whole.mem_uc r hs)).trans (KernelIdeal.Whole.W11_args m g c r hr)
    exact ⟨a _ (by decide) (by decide), a _ (by decide) (by decide), a _ (by decide) (by decide), a _ (by decide) (by decide),
      a _ (by decide) (by decide), a _ (by decide) (by decide), a _ (by decide) (by decide), a _ (by decide) (by decide),
      a _ (by decide) (by decide), a _ (by decide) (by decide)⟩
  · refine (θ_run _ _ _).mono (fun r h c => ⟨?_, ?_, (h c).2.2⟩) (ReferenceIdeal.Value.run m' g')
    · obtain ⟨y, hk, -, hy⟩ := agree hpre c g fun c => ⟨(hargs c).1, (hargs c).2.1, (hargs c).2.2.1, (hargs c).2.2.2.1,
        (hargs c).2.2.2.2.1, (hargs c).2.2.2.2.2.1, (hargs c).2.2.2.2.2.2.1, (hargs c).2.2.2.2.2.2.2.1, (hargs c).2.2.2.2.2.2.2.2.1⟩
      refine (h c).1.trans (funext fun i => ?_)
      obtain ⟨p, e, rfl⟩ : ∃ p e, i = ix2 p e := ⟨i 0, i 1, eq_ix2 i⟩
      exact (ReferenceIdeal.Value.dense_at hy p e).trans (hk p e).symm
    · obtain ⟨y, -, hk, hy⟩ := agree hpre c g fun c => ⟨(hargs c).1, (hargs c).2.1, (hargs c).2.2.1, (hargs c).2.2.2.1,
        (hargs c).2.2.2.2.1, (hargs c).2.2.2.2.2.1, (hargs c).2.2.2.2.2.2.1, (hargs c).2.2.2.2.2.2.2.1, (hargs c).2.2.2.2.2.2.2.2.1⟩
      refine (h c).2.1.trans (funext fun i => ?_)
      obtain ⟨e, rfl⟩ : ∃ e, i = ix1 e := ⟨i 0, eq_ix1 i⟩
      exact (ReferenceIdeal.Value.load_at hy e).trans (hk e).symm

end Cert.Value
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import proofs.«01_k».proof.Proof.Gen.ReferenceIdeal.Run
public import proofs.«01_k».proof.Proof.KernelIdealRun.Frame
public import proofs.«01_k».proof.Proof.Value.Agree
public import Idealize.ShloMosaic.Init
public import Idealize.ShloMosaic.Lib.Quiescent

@[expose] public section

noncomputable section

namespace Cert.Proof

open Idealize.ShloMosaic Idealize.SL.Sem Idealize.ShloMosaic.TcCoe

/-- The reference leaves its arguments as they were; it has no semaphores. -/
theorem frame_reference : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- The idealised program is the program itself, printed again under other names, and its frame holds over every kind of
    float: the frame of the program is the idealised program's frame over words, equal to it by unfolding the names. -/
theorem same_frame : Cert.quiescent_Kernel (hKernel := Cert.Kernel.Gen.facts) =
    ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0) := by chain_rfl

theorem claim : Cert.Claim := ⟨Cert.Kernel.Gen.facts, Cert.KernelIdeal.Gen.facts, Cert.ReferenceIdeal.Gen.facts,
  Cert.Value.facts_inputs_finite,
  same_frame.mpr fun m g _ => Cert.KernelIdeal.Whole.frame m g,
  fun m g _ => Cert.KernelIdeal.Whole.frame m g,
  fun m g _ => Cert.KernelIdeal.Whole.frame m g,
  frame_reference,
  fun m g _ => frame_reference m g trivial,
  trivial,
  Cert.Value.algebraic⟩

end Cert.Proof

end
